-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sents [hPre_finite_sents : Cert.Pre_finite_sents.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sents [hPre_finite_sents : Cert.Pre_finite_sents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_sents [hKernelIdeal : Cert.KernelIdeal.Facts] [hPre_finite_sents : Cert.Pre_finite_sents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_sents [hReferenceIdeal : Cert.ReferenceIdeal.Facts] [hPre_finite_sents : Cert.Pre_finite_sents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_sents [hKernelIdeal : Cert.KernelIdeal.Facts] [hReferenceIdeal : Cert.ReferenceIdeal.Facts] [hPre_finite_sents : Cert.Pre_finite_sents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_sents : Cert.Pre_finite_sents.Facts),
    quiescent_Kernel (hKernel := hKernel)
    ∧ quiescent_KernelIdeal (hKernelIdeal := hKernelIdeal)
    ∧ quiescent_KernelIdeal_pre_finite_sents (hKernelIdeal := hKernelIdeal) (hPre_finite_sents := hPre_finite_sents)
    ∧ quiescent_ReferenceIdeal (hReferenceIdeal := hReferenceIdeal)
    ∧ quiescent_ReferenceIdeal_pre_finite_sents (hReferenceIdeal := hReferenceIdeal) (hPre_finite_sents := hPre_finite_sents)
    ∧ preserves_Kernel_KernelIdeal
    ∧ algebraic_KernelIdeal_ReferenceIdeal_pre_finite_sents (hKernelIdeal := hKernelIdeal) (hReferenceIdeal := hReferenceIdeal) (hPre_finite_sents := hPre_finite_sents)
-- ==== Pre_finite_sents.lean ====
abbrev S4096x20x32 : Shape := ⟨3, ![4096, 20, 32]⟩
abbrev S4096x20 : Shape := ⟨2, ![4096, 20]⟩
abbrev S4096x64x32 : Shape := ⟨3, ![4096, 64, 32]⟩
abbrev S32x32 : Shape := ⟨2, ![32, 32]⟩
abbrev S_ : Shape := ⟨0, ![]⟩

class Facts : Prop where
  bcast_S_S4096x20x32 : S_.BroadcastsInDim S4096x20x32 (![] : Fin 0 → Fin S4096x20x32.rank)

variable [Facts]

def fn {F : FTy → Type} [FloatOps F] (main_arg0 : FVec F S4096x20x32 .f32) (main_arg1 : IVec S4096x20 1) (main_arg2 : FVec F S4096x64x32 .f32) (main_arg3 : FVec F S32x32 .f32) (main_arg4 : FVec F S32x32 .f32) (main_arg5 : FVec F S32x32 .f32) : IVec S4096x20x32 1 :=
  let main_v0 : FVec F S4096x20x32 .f32 := Host.absf main_arg0
  let main_cst : FVec F S_ .f32 := constant S_ .f32 0x7F800000#32
  let main_v1 : FVec F S4096x20x32 .f32 := broadcastInDim S4096x20x32 ![] bcast_S_S4096x20x32 main_cst
  let main_v2 : IVec S4096x20x32 1 := cmpf .olt main_v0 main_v1
  main_v2
-- ==== Kernel.lean ====
abbrev S4096x20x32 : Shape := ⟨3, ![4096, 20, 32]⟩
abbrev S4096x20 : Shape := ⟨2, ![4096, 20]⟩
abbrev S4096x64x32 : Shape := ⟨3, ![4096, 64, 32]⟩
abbrev S32x32 : Shape := ⟨2, ![32, 32]⟩
abbrev S4096x640 : Shape := ⟨2, ![4096, 640]⟩
abbrev S4096x2048 : Shape := ⟨2, ![4096, 2048]⟩
abbrev S32x64 : Shape := ⟨2, ![32, 64]⟩
abbrev S_ : Shape := ⟨0, ![]⟩
abbrev S256x640 : Shape := ⟨2, ![256, 640]⟩
abbrev S256x20 : Shape := ⟨2, ![256, 20]⟩
abbrev S256x2048 : Shape := ⟨2, ![256, 2048]⟩
abbrev S2048x256 : Shape := ⟨2, ![2048, 256]⟩
abbrev S20x32x256 : Shape := ⟨3, ![20, 32, 256]⟩
abbrev S20x1x256 : Shape := ⟨3, ![20, 1, 256]⟩
abbrev S640x256 : Shape := ⟨2, ![640, 256]⟩
abbrev S20x256 : Shape := ⟨2, ![20, 256]⟩
abbrev S32x256 : Shape := ⟨2, ![32, 256]⟩
abbrev S1x32x256 : Shape := ⟨3, ![1, 32, 256]⟩
abbrev S1x256 : Shape := ⟨2, ![1, 256]⟩
abbrev S1x1x256 : Shape := ⟨3, ![1, 1, 256]⟩
abbrev S256 : Shape := ⟨1, ![256]⟩
abbrev S64x256 : Shape := ⟨2, ![64, 256]⟩

abbrev nBuf : Space → Nat
  | .hbm => 20
  | .vmem => 14
  | .smem => 0
  | _ => 0

abbrev bufTy : (tb : Table) → Fin (tcTables nBuf tb) → BufTy
  | .hbm, ⟨0, _⟩ => ⟨S4096x20x32, .f32⟩
  | .hbm, ⟨1, _⟩ => ⟨S4096x20, .i1⟩
  | .hbm, ⟨2, _⟩ => ⟨S4096x64x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S4096x640, .f32⟩
  | .hbm, ⟨7, _⟩ => ⟨S4096x20, .f32⟩
  | .hbm, ⟨8, _⟩ => ⟨S4096x2048, .f32⟩
  | .hbm, ⟨9, _⟩ => ⟨S32x32, .f32⟩
  | .hbm, ⟨10, _⟩ => ⟨S32x32, .f32⟩
  | .hbm, ⟨11, _⟩ => ⟨S32x64, .f32⟩
  | .hbm, ⟨12, _⟩ => ⟨S_, .f32⟩
  | .hbm, ⟨13, _⟩ => ⟨S32x64, .f32⟩
  | .hbm, ⟨14, _⟩ => ⟨S32x64, .f32⟩
  | .hbm, ⟨15, _⟩ => ⟨S32x32, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S4096x2048, .f32⟩
  | .local _ .vmem, ⟨0, _⟩ => ⟨S256x640, .f32⟩
  | .local _ .vmem, ⟨1, _⟩ => ⟨S256x640, .f32⟩
  | .local _ .vmem, ⟨2, _⟩ => ⟨S256x20, .f32⟩
  | .local _ .vmem, ⟨3, _⟩ => ⟨S256x20, .f32⟩
  | .local _ .vmem, ⟨4, _⟩ => ⟨S256x2048, .f32⟩
  | .local _ .vmem, ⟨5, _⟩ => ⟨S256x2048, .f32⟩
  | .local _ .vmem, ⟨6, _⟩ => ⟨S32x64, .f32⟩
  | .local _ .vmem, ⟨7, _⟩ => ⟨S32x32, .f32⟩
  | .local _ .vmem, ⟨8, _⟩ => ⟨S256x2048, .f32⟩
  | .local _ .vmem, ⟨9, _⟩ => ⟨S256x2048, .f32⟩
  | .local _ .vmem, ⟨10, _⟩ => ⟨S2048x256, .f32⟩
  | .local _ .vmem, ⟨11, _⟩ => ⟨S2048x256, .f32⟩
  | .local _ .vmem, ⟨12, _⟩ => ⟨S20x32x256, .f32⟩
  | .local _ .vmem, ⟨13, _⟩ => ⟨S20x1x256, .f32⟩
  | _, _ => ⟨S4096x20x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c5_i32 : BitVec 32 := 5#32
  let v179 : BitVec 32 := Scalar.addi c0_i32 c5_i32
  let c1_i32 : BitVec 32 := 1#32
  ⟨c0_i32, v179, c1_i32⟩
def k0_off1 (k0_t1 : Fin k0_t1_loop.trips) : Fin 3 → Nat :=
  let c4_i32 : BitVec 32 := 4#32
  let c0_i32 : BitVec 32 := 0#32
  let c1_i32 : BitVec 32 := 1#32
  let arg11 : BitVec 32 := Scf.iv c0_i32 c1_i32 k0_t1
  let v183 : BitVec 32 := Scalar.muli c4_i32 arg11
  let v184 : Index := Scalar.indexCast v183
  let c0_119 : Index := 0#32
  let c0_120 : Index := 0#32
  ![v184.toNat, 0, 0]
def k0_off2 (k0_t1 : Fin k0_t1_loop.trips) : Fin 3 → Nat :=
  let c4_i32 : BitVec 32 := 4#32
  let c0_i32 : BitVec 32 := 0#32
  let c1_i32 : BitVec 32 := 1#32
  let arg11 : BitVec 32 := Scf.iv c0_i32 c1_i32 k0_t1
  let v183 : BitVec 32 := Scalar.muli c4_i32 arg11
  let v187 : Index := Scalar.indexCast v183
  let c0_121 : Index := 0#32
  let c0_122 : Index := 0#32
  ![v187.toNat, 0, 0]
def k0_off3 (k0_t1 : Fin k0_t1_loop.trips) (c1_i32_958 : BitVec 32) : Fin 3 → Nat :=
  let c4_i32_957 : BitVec 32 := 4#32
  let c0_i32 : BitVec 32 := 0#32
  let c1_i32 : BitVec 32 := 1#32
  let arg11 : BitVec 32 := Scf.iv c0_i32 c1_i32 k0_t1
  let v2497 : BitVec 32 := Scalar.muli c4_i32_957 arg11
  let v2498 : BitVec 32 := Scalar.addi v2497 c1_i32_958
  let v2499 : Index := Scalar.indexCast v2498
  let c0_959 : Index := 0#32
  let c0_960 : Index := 0#32
  ![v2499.toNat, 0, 0]
def k0_off4 (k0_t1 : Fin k0_t1_loop.trips) (c1_i32_958 : BitVec 32) : Fin 3 → Nat :=
  let c4_i32_957 : BitVec 32 := 4#32
  let c0_i32 : BitVec 32 := 0#32
  let c1_i32 : BitVec 32 := 1#32
  let arg11 : BitVec 32 := Scf.iv c0_i32 c1_i32 k0_t1
  let v2497 : BitVec 32 := Scalar.muli c4_i32_957 arg11
  let v2498 : BitVec 32 := Scalar.addi v2497 c1_i32_958
  let v2502 : Index := Scalar.indexCast v2498
  let c0_961 : Index := 0#32
  let c0_962 : Index := 0#32
  ![v2502.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x20x32 : Shape := ⟨3, ![4096, 20, 32]⟩
abbrev S4096x20 : Shape := ⟨2, ![4096, 20]⟩
abbrev S4096x64x32 : Shape := ⟨3, ![4096, 64, 32]⟩
abbrev S32x32 : Shape := ⟨2, ![32, 32]⟩
abbrev S20x4096x32 : Shape := ⟨3, ![20, 4096, 32]⟩
abbrev S20x4096 : Shape := ⟨2, ![20, 4096]⟩
abbrev S_ : Shape := ⟨0, ![]⟩
abbrev S1x4096x32 : Shape := ⟨3, ![1, 4096, 32]⟩
abbrev S4096x32 : Shape := ⟨2, ![4096, 32]⟩
abbrev S1x4096 : Shape := ⟨2, ![1, 4096]⟩
abbrev S4096 : Shape := ⟨1, ![4096]⟩
abbrev S4096x1x32 : Shape := ⟨3, ![4096, 1, 32]⟩
abbrev S4096x64 : Shape := ⟨2, ![4096, 64]⟩
abbrev S4096x64x1 : Shape := ⟨3, ![4096, 64, 1]⟩
abbrev S4096x1x1 : Shape := ⟨3, ![4096, 1, 1]⟩
abbrev S4096x2048 : Shape := ⟨2, ![4096, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4096x20x32, .f32⟩
  | .hbm, ⟨1, _⟩ => ⟨S4096x20, .i1⟩
  | .hbm, ⟨2, _⟩ => ⟨S4096x64x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S20x4096x32, .f32⟩
  | .hbm, ⟨7, _⟩ => ⟨S20x4096, .i1⟩
  | .hbm, ⟨8, _⟩ => ⟨S_, .i32⟩
  | .hbm, ⟨9, _⟩ => ⟨S20x4096x32, .f32⟩
  | .hbm, ⟨10, _⟩ => ⟨S20x4096, .i1⟩
  | .hbm, ⟨11, _⟩ => ⟨S4096x64x32, .f32⟩
  | .hbm, ⟨12, _⟩ => ⟨S32x32, .f32⟩
  | .hbm, ⟨13, _⟩ => ⟨S32x32, .f32⟩
  | .hbm, ⟨14, _⟩ => ⟨S32x32, .f32⟩
  | .hbm, ⟨15, _⟩ => ⟨S_, .i32⟩
  | .hbm, ⟨16, _⟩ => ⟨S4096x64x32, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x4096x32, .f32⟩
  | .hbm, ⟨22, _⟩ => ⟨S4096x32, .f32⟩
  | .hbm, ⟨23, _⟩ => ⟨S_, .i32⟩
  | .hbm, ⟨24, _⟩ => ⟨S1x4096, .i1⟩
  | .hbm, ⟨25, _⟩ => ⟨S4096, .i1⟩
  | .hbm, ⟨26, _⟩ => ⟨S4096x1x32, .f32⟩
  | .hbm, ⟨27, _⟩ => ⟨S4096x64x32, .f32⟩
  | .hbm, ⟨28, _⟩ => ⟨S4096x64x32, .f32⟩
  | .hbm, ⟨29, _⟩ => ⟨S4096x1x32, .f32⟩
  | .hbm, ⟨30, _⟩ => ⟨S4096x64x32, .f32⟩
  | .hbm, ⟨31, _⟩ => ⟨S4096x64x32, .f32⟩
  | .hbm, ⟨32, _⟩ => ⟨S4096x64x32, .f32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S4096x1x32, .f32⟩
  | .hbm, ⟨44, _⟩ => ⟨S4096x64x32, .f32⟩
  | .hbm, ⟨45, _⟩ => ⟨S4096x64x32, .f32⟩
  | .hbm, ⟨46, _⟩ => ⟨S4096x64x32, .f32⟩
  | .hbm, ⟨47, _⟩ => ⟨S4096x64x32, .f32⟩
  | .hbm, ⟨48, _⟩ => ⟨S4096x64x32, .f32⟩
  | .hbm, ⟨49, _⟩ => ⟨S4096x64x32, .f32⟩
  | .hbm, ⟨50, _⟩ => ⟨S4096x64x32, .f32⟩
  | .hbm, ⟨51, _⟩ => ⟨S4096x64x32, .f32⟩
  | .hbm, ⟨52, _⟩ => ⟨S_, .f32⟩
  | .hbm, ⟨53, _⟩ => ⟨S4096x64x32, .f32⟩
  | .hbm, ⟨54, _⟩ => ⟨S4096x64x32, .f32⟩
  | .hbm, ⟨55, _⟩ => ⟨S_, .f32⟩
  | .hbm, ⟨56, _⟩ => ⟨S4096x64x32, .f32⟩
  | .hbm, ⟨57, _⟩ => ⟨S4096x64x32, .f32⟩
  | .hbm, ⟨58, _⟩ => ⟨S4096x64x1, .f32⟩
  | .hbm, ⟨59, _⟩ => ⟨S4096x64x32, .f32⟩
  | .hbm, ⟨60, _⟩ => ⟨S4096x64x32, .f32⟩
  | .hbm, ⟨61, _⟩ => ⟨S4096x64x32, .f32⟩
  | .hbm, ⟨62, _⟩ => ⟨S4096x64x32, .f32⟩
  | .hbm, ⟨63, _⟩ => ⟨S_, .f32⟩
  | .hbm, ⟨64, _⟩ => ⟨S4096x64, .f32⟩
  | .hbm, ⟨65, _⟩ => ⟨S4096x64x1, .f32⟩
  | .hbm, ⟨66, _⟩ => ⟨S_, .f32⟩
  | .hbm, ⟨67, _⟩ => ⟨S4096x64x1, .f32⟩
  | .hbm, ⟨68, _⟩ => ⟨S4096x64x1, .f32⟩
  | .hbm, ⟨69, _⟩ => ⟨S4096x64x1, .f32⟩
  | .hbm, ⟨70, _⟩ => ⟨S4096x64x32, .f32⟩
  | .hbm, ⟨71, _⟩ => ⟨S4096x64x32, .f32⟩
  | .hbm, ⟨72, _⟩ => ⟨S4096x1x1, .i1⟩
  | .hbm, ⟨73, _⟩ => ⟨S4096x64x32, .i1⟩
  | .hbm, ⟨74, _⟩ => ⟨S4096x64x32, .f32⟩
  | .hbm, ⟨75, _⟩ => ⟨S_, .i32⟩
  | .hbm, ⟨76, _⟩ => ⟨S_, .i32⟩
  | .hbm, ⟨77, _⟩ => ⟨S4096x2048, .f32⟩
  | _, _ => ⟨S4096x20x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_while0c_c_7 : Ref sig .tc := ⟨.hbm, 17, rfl⟩
abbrev main_while0c_v4 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v4 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_v5 : Ref sig .tc := ⟨.hbm, 25, rfl⟩
abbrev main_while0b_v6 : Ref sig .tc := ⟨.hbm, 26, rfl⟩
abbrev main_while0b_v7 : Ref sig .tc := ⟨.hbm, 27, rfl⟩
abbrev main_while0b_v8 : Ref sig .tc := ⟨.hbm, 28, rfl⟩
abbrev main_while0b_v9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_v12 : Ref sig .tc := ⟨.hbm, 32, rfl⟩
abbrev main_while0b_cst : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_cst_7 : Ref sig .tc := ⟨.hbm, 37, rfl⟩
abbrev main_while0b_v16 : Ref sig .tc := ⟨.hbm, 38, rfl⟩
abbrev main_while0b_v17 : Ref sig .tc := ⟨.hbm, 39, rfl⟩
abbrev main_while0b_cst_8 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_cst_9 : Ref sig .tc := ⟨.hbm, 52, rfl⟩
abbrev main_while0b_v29 : Ref sig .tc := ⟨.hbm, 53, rfl⟩
abbrev main_while0b_v30 : Ref sig .tc := ⟨.hbm, 54, rfl⟩
abbrev main_while0b_cst_10 : Ref sig .tc := ⟨.hbm, 55, rfl⟩
abbrev main_while0b_v31 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_v37 : Ref sig .tc := ⟨.hbm, 62, rfl⟩
abbrev main_while0b_cst_11 : Ref sig .tc := ⟨.hbm, 63, rfl⟩
abbrev main_while0b_v38 : Ref sig .tc := ⟨.hbm, 64, rfl⟩
abbrev main_while0b_v39 : Ref sig .tc := ⟨.hbm, 65, rfl⟩
abbrev main_while0b_cst_12 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_call2_v0 : Ref sig .tc := ⟨.hbm, 73, rfl⟩
abbrev main_while0b_v46 : Ref sig .tc := ⟨.hbm, 74, rfl⟩
abbrev main_while0b_c_13 : Ref sig .tc := ⟨.hbm, 75, rfl⟩
abbrev main_while0b_v47 : Ref sig .tc := ⟨.hbm, 76, rfl⟩
abbrev main_v3 : Ref sig .tc := ⟨.hbm, 77, rfl⟩

abbrev nD : Nat := 1
abbrev τ : Topo := Topo.v7x

variable {F : FTy → Type} [FloatOps F]

abbrev main_while0_count : Scf.Loop 32 := ⟨0#32, 20#32, 1#32⟩
-- ==== Proof.Trip.lean ====
/- One trip of the kernel's loop runs four sentences over the sixty-four memory cells. Here: the trip's stores as
   one recursion over the (sentence, cell) pairs, in the order the kernel runs them. -/
module

public import proofs.«01_k».proof.Proof.Gen.KernelIdeal.Loops

@[expose] public section

set_option maxRecDepth 16384

noncomputable section

namespace Cert.KernelIdeal.Cells

open Idealize.ShloMosaic Idealize.ShloMosaic.TcCoe
open Cert.KernelIdeal Cert.KernelIdeal.Gen

variable {F : FTy → Type} [FloatOps F]

/-- The rows of the scratch arrays that hold memory cell `n` (taken modulo the number of cells). -/
abbrev cellRect (n : ℕ) : Rect S2048x256 :=
  Rect.unit (s := S2048x256) ![32 * (n % 64), 0] S32x256.size (fun a => by
    fin_cases a
    · show 32 * (n % 64) + 32 ≤ 2048; omega
    · show 0 + 256 ≤ 256; omega)

/-- What the trip reads of its four sentences: sentence `j`'s vectors, as the kernel loads them. -/
abbrev sentOf (arg9 : Memref sig .tc .vmem S20x32x256 .f32) (X9 : BufTy.Contents (Elt F) arg9.view.ty)
    (k : Fin k0_t1_loop.trips) : ℕ → Vec F S1x32x256 .f32
  | 0 => arg9.view.readAt (Elt F) (Rect.unit (s := S20x32x256) (k0_off1 k) S1x32x256.size (k0_off1_inb k)).toLoadRect X9
  | 1 => arg9.view.readAt (Elt F) (Rect.unit (s := S20x32x256) (k0_off3 k 1#32) S1x32x256.size (k0_off3_inb k 0)).toLoadRect X9
  | 2 => arg9.view.readAt (Elt F) (Rect.unit (s := S20x32x256) (k0_off3 k 2#32) S1x32x256.size (k0_off3_inb k 1)).toLoadRect X9
  | _ => arg9.view.readAt (Elt F) (Rect.unit (s := S20x32x256) (k0_off3 k 3#32) S1x32x256.size (k0_off3_inb k 2)).toLoadRect X9

/-- What the trip reads of its four sentences' masks. -/
abbrev maskOf (arg10 : Memref sig .tc .vmem S20x1x256 .f32) (X10 : BufTy.Contents (Elt F) arg10.view.ty)
    (k : Fin k0_t1_loop.trips) : ℕ → Vec F S1x1x256 .f32
  | 0 => arg10.view.readAt (Elt F) (Rect.unit (s := S20x1x256) (k0_off2 k) S1x1x256.size (k0_off2_inb k)).toLoadRect X10
  | 1 => arg10.view.readAt (Elt F) (Rect.unit (s := S20x1x256) (k0_off4 k 1#32) S1x1x256.size (k0_off4_inb k 0)).toLoadRect X10
  | 2 => arg10.view.readAt (Elt F) (Rect.unit (s := S20x1x256) (k0_off4 k 2#32) S1x1x256.size (k0_off4_inb k 1)).toLoadRect X10
  | _ => arg10.view.readAt (Elt F) (Rect.unit (s := S20x1x256) (k0_off4 k 3#32) S1x1x256.size (k0_off4_inb k 2)).toLoadRect X10

/-- One memory cell updated by one sentence: the cell's new contents from its old ones and its key. -/
def cellStep (v1 : FVec F S32x64 .f32) (v3 : FVec F S32x32 .f32) (s : Vec F S1x32x256 .f32) (q : Vec F S1x1x256 .f32)
    (h kt : FVec F S32x256 .f32) : FVec F S32x256 .f32 :=
  k0_pay8 v1 (k0_pay3 s) (k0_pay4 q) (k0_pay5 v3 s) h kt

variable (v1 : FVec F S32x64 .f32) (v3 : FVec F S32x32 .f32) (s : ℕ → Vec F S1x32x256 .f32) (q : ℕ → Vec F S1x1x256 .f32)
variable (arg7 arg8 : Memref sig .tc .vmem S2048x256 .f32) (X8 : BufTy.Contents (Elt F) arg8.view.ty)
variable (f : BufTy.Contents (Elt F) arg7.view.ty)

/-- What the load of the cell's old contents finds after the stores `L`: in the first sentence, what the trip began
    with; later, what the stores left. -/
def oldCell (n : ℕ) (L : List (View.Piece (Elt F) S2048x256 .f32)) : FVec F S32x256 .f32 :=
  bif Nat.blt n 64 then arg7.view.readAt (Elt F) (cellRect n).toLoadRect f
  else arg7.view.readCov L (cellRect n).toLoadRect

/-- The stores of the first `n` cell updates, the last first. -/
def stores : ℕ → List (View.Piece (Elt F) S2048x256 .f32)
  | 0 => []
  | n + 1 =>
    ⟨cellRect n, cellStep v1 v3 (s (n / 64)) (q (n / 64)) (oldCell arg7 f n (stores n))
      (arg8.view.readAt (Elt F) (cellRect n).toLoadRect X8)⟩ :: stores n

/-- The trip's stores are those of its two hundred and fifty-six cell updates. -/
theorem tripL_eq (𝒱 : Variants) (c : Dev nD) (bd : Option 𝒱.V) (i : grid0.Coords) (arg1 : Memref sig .tc .vmem S256x640 .f32) (harg1 : arg1.IsWhole) (arg2 : Memref sig .tc .vmem S256x20 .f32) (harg2 : arg2.IsWhole) (arg3 : Memref sig .tc .vmem S256x2048 .f32) (harg3 : arg3.IsWhole) (arg4 : Memref sig .tc .vmem S32x64 .f32) (harg4 : arg4.IsWhole) (arg5 : Memref sig .tc .vmem S32x32 .f32) (harg5 : arg5.IsWhole) (arg6 : Memref sig .tc .vmem S256x2048 .f32) (harg6 : arg6.IsWhole) (harg7 : arg7.IsWhole) (harg8 : arg8.IsWhole) (arg9 : Memref sig .tc .vmem S20x32x256 .f32) (harg9 : arg9.IsWhole) (arg10 : Memref sig .tc .vmem S20x1x256 .f32) (harg10 : arg10.IsWhole)
    (c0_i32 c1_i32 : BitVec 32) (X9 : BufTy.Contents (Elt F) arg9.view.ty) (X10 : BufTy.Contents (Elt F) arg10.view.ty)
    (k : Fin k0_t1_loop.trips) :
    tripL_k0_t1 𝒱 c bd i arg1 harg1 arg2 harg2 arg3 harg3 arg4 harg4 arg5 harg5 arg6 harg6 arg7 harg7 arg8 harg8 arg9 harg9 arg10 harg10 v1 v3 c0_i32 c1_i32 X8 X9 X10 k f
      = stores v1 v3 (sentOf arg9 X9 k) (maskOf arg10 X10 k) arg7 arg8 X8 f 256 := by
  sl_kernel_rfl

end Cert.KernelIdeal.Cells

end
-- ==== Proof.Loop.lean ====
/- What the scratch array holds, cell by cell, while the kernel's loop runs: each memory cell goes through one
   `cellStep` per sentence, from its key, and no cell's contents depend on another cell's. -/
module

public import proofs.«01_k».proof.Proof.Trip

@[expose] public section

set_option maxRecDepth 16384

noncomputable section

namespace Cert.KernelIdeal.Cells

open Idealize.ShloMosaic Idealize.ShloMosaic.TcCoe
open Cert.KernelIdeal Cert.KernelIdeal.Gen

variable {F : FTy → Type} [FloatOps F]

/-- The contents of memory cell `m` in the array whose contents are `f`. -/
def cellAt (arg : Memref sig .tc .vmem S2048x256 .f32) (f : BufTy.Contents (Elt F) arg.view.ty) (m : ℕ) :
    FVec F S32x256 .f32 :=
  arg.view.readAt (Elt F) (cellRect m).toLoadRect f

variable (arg : Memref sig .tc .vmem S2048x256 .f32)

/-- A cell is the array's 32 rows from `32 * m`. -/
theorem cellAt_apply (f : BufTy.Contents (Elt F) arg.view.ty) (m : ℕ) (x : S32x256.Idx) :
    cellAt arg f m x = arg.view.read (Elt F) f ((cellRect m).emb x) := by
  unfold cellAt
  rw [View.readAt_apply]
  rfl

/-- Only the cell's number modulo 64 matters. -/
theorem cellAt_mod (f : BufTy.Contents (Elt F) arg.view.ty) (m : ℕ) : cellAt arg f (m % 64) = cellAt arg f m := by
  funext x
  rw [cellAt_apply, cellAt_apply]
  congr 1
  funext a
  apply Fin.ext
  show (cellRect (m % 64)).off a + _ * _ = (cellRect m).off a + _ * _
  simp only [Rect.unit, Nat.mod_mod]

/-- A store to a cell is what a load of that cell finds next; -/
theorem cellAt_same (f : BufTy.Contents (Elt F) arg.view.ty) (m n : ℕ) (h : m % 64 = n % 64)
    (w : FVec F S32x256 .f32) (L : List (View.Piece (Elt F) S2048x256 .f32)) :
    cellAt arg (arg.view.writes (Elt F) f (⟨cellRect n, w⟩ :: L)) m = w := by
  have e (g : BufTy.Contents (Elt F) arg.view.ty) : cellAt arg g m = cellAt arg g n := by
    rw [← cellAt_mod _ _ m, h, cellAt_mod]
  rw [e]
  funext x
  rw [cellAt_apply]
  exact View.read_writes_cons_emb arg.view f (cellRect n) w L x

/-- a load of another cell does not see it. -/
theorem cellAt_other (f : BufTy.Contents (Elt F) arg.view.ty) (m n : ℕ) (h : m % 64 ≠ n % 64)
    (w : FVec F S32x256 .f32) (L : List (View.Piece (Elt F) S2048x256 .f32)) :
    cellAt arg (arg.view.writes (Elt F) f (⟨cellRect n, w⟩ :: L)) m = cellAt arg (arg.view.writes (Elt F) f L) m := by
  funext x
  rw [cellAt_apply, cellAt_apply]
  refine View.read_writes_cons_miss_of_axis _ _ _ _ _ 0 (32 * (n % 64)) 32 rfl rfl rfl ?_
  have h0 : (x 0).val < 32 := (x 0).isLt
  show 32 * (m % 64) + 1 * (x 0).val < _ ∨ _ ≤ 32 * (m % 64) + 1 * (x 0).val
  omega

section Trip

variable (v1 : FVec F S32x64 .f32) (v3 : FVec F S32x32 .f32) (s : ℕ → Vec F S1x32x256 .f32) (q : ℕ → Vec F S1x1x256 .f32)
variable (arg7 arg8 : Memref sig .tc .vmem S2048x256 .f32) (X8 : BufTy.Contents (Elt F) arg8.view.ty)
variable (f : BufTy.Contents (Elt F) arg7.view.ty)

/-- A cell of the first sentence that the trip has not come to yet still holds what the trip began with. -/
theorem cellAt_untouched (n m : ℕ) (hn : n ≤ m) (hm : m < 64) :
    cellAt arg7 (arg7.view.writes (Elt F) f (stores v1 v3 s q arg7 arg8 X8 f n)) m = cellAt arg7 f m := by
  induction n with
  | zero => rfl
  | succ n ih =>
    rw [stores, cellAt_other _ _ _ _ (by omega), ih (by omega)]

/-- A cell that the trip has stored to does not depend on what the array held before those stores. -/
theorem cellAt_stored (f' : BufTy.Contents (Elt F) arg7.view.ty) (n m : ℕ) (hm : m % 64 < n) :
    cellAt arg7 (arg7.view.writes (Elt F) f' (stores v1 v3 s q arg7 arg8 X8 f n)) m
      = cellAt arg7 (arg7.view.writes (Elt F) f (stores v1 v3 s q arg7 arg8 X8 f n)) m := by
  induction n with
  | zero => omega
  | succ n ih =>
    by_cases h : m % 64 = n % 64
    · rw [stores, cellAt_same _ _ _ _ h, cellAt_same _ _ _ _ h]
    · rw [stores, cellAt_other _ _ _ _ h, cellAt_other _ _ _ _ h, ih (by omega)]

/-- So each update starts from what its cell holds at that moment. -/
theorem oldCell_eq (n : ℕ) :
    oldCell arg7 f n (stores v1 v3 s q arg7 arg8 X8 f n)
      = cellAt arg7 (arg7.view.writes (Elt F) f (stores v1 v3 s q arg7 arg8 X8 f n)) n := by
  unfold oldCell
  by_cases h : n < 64
  · rw [show Nat.blt n 64 = true from Nat.blt_eq.mpr h, cond_true]
    exact (cellAt_untouched v1 v3 s q arg7 arg8 X8 f n n le_rfl h).symm
  · rw [show Nat.blt n 64 = false from by rw [Bool.eq_false_iff, ne_eq, Nat.blt_eq]; exact h, cond_false]
    exact cellAt_stored v1 v3 s q arg7 arg8 X8 f _ n n (by omega)

/-- What the update of pair `n` leaves in its cell. -/
theorem cellAt_stores_same (n m : ℕ) (h : m % 64 = n % 64) :
    cellAt arg7 (arg7.view.writes (Elt F) f (stores v1 v3 s q arg7 arg8 X8 f (n + 1))) m
      = cellStep v1 v3 (s (n / 64)) (q (n / 64))
          (cellAt arg7 (arg7.view.writes (Elt F) f (stores v1 v3 s q arg7 arg8 X8 f n)) m) (cellAt arg8 X8 m) := by
  rw [stores, cellAt_same _ _ _ _ h, oldCell_eq]
  rw [← cellAt_mod _ _ n, ← h, cellAt_mod]
  congr 1
  show cellAt arg8 X8 n = _
  rw [← cellAt_mod _ _ n, ← h, cellAt_mod]

/-- The update of pair `n` leaves every other cell as it was. -/
theorem cellAt_stores_other (n m : ℕ) (h : m % 64 ≠ n % 64) :
    cellAt arg7 (arg7.view.writes (Elt F) f (stores v1 v3 s q arg7 arg8 X8 f (n + 1))) m
      = cellAt arg7 (arg7.view.writes (Elt F) f (stores v1 v3 s q arg7 arg8 X8 f n)) m := by
  rw [stores, cellAt_other _ _ _ _ h]

/-- Part way through sentence `j`: the cells before the one in turn have gone through it, the others not. -/
theorem cellAt_sentence_part (j m i : ℕ) (hi : i ≤ 64) :
    cellAt arg7 (arg7.view.writes (Elt F) f (stores v1 v3 s q arg7 arg8 X8 f (64 * j + i))) m
      = if m % 64 < i then
          cellStep v1 v3 (s j) (q j)
            (cellAt arg7 (arg7.view.writes (Elt F) f (stores v1 v3 s q arg7 arg8 X8 f (64 * j))) m) (cellAt arg8 X8 m)
        else cellAt arg7 (arg7.view.writes (Elt F) f (stores v1 v3 s q arg7 arg8 X8 f (64 * j))) m := by
  induction i with
  | zero => rw [if_neg (by omega), Nat.add_zero]
  | succ i ih =>
    rw [← Nat.add_assoc]
    by_cases h : m % 64 = i
    · rw [cellAt_stores_same _ _ _ _ _ _ _ _ _ _ (by omega), ih (by omega), if_neg (by omega), if_pos (by omega),
        show (64 * j + i) / 64 = j by omega]
    · rw [cellAt_stores_other _ _ _ _ _ _ _ _ _ _ (by omega), ih (by omega)]
      by_cases h' : m % 64 < i
      · rw [if_pos h', if_pos (by omega)]
      · rw [if_neg h', if_neg (by omega)]

/-- One whole sentence. -/
theorem cellAt_sentence (j m : ℕ) :
    cellAt arg7 (arg7.view.writes (Elt F) f (stores v1 v3 s q arg7 arg8 X8 f (64 * (j + 1)))) m
      = cellStep v1 v3 (s j) (q j)
          (cellAt arg7 (arg7.view.writes (Elt F) f (stores v1 v3 s q arg7 arg8 X8 f (64 * j))) m) (cellAt arg8 X8 m) := by
  rw [Nat.mul_add, Nat.mul_one, cellAt_sentence_part _ _ _ _ _ _ _ _ _ _ _ le_rfl, if_pos (by omega)]

end Trip

/-- A memory cell after its first `t` sentences, from its key. -/
def hist (v1 : FVec F S32x64 .f32) (v3 : FVec F S32x32 .f32) (S : ℕ → Vec F S1x32x256 .f32) (Q : ℕ → Vec F S1x1x256 .f32)
    (key : FVec F S32x256 .f32) : ℕ → FVec F S32x256 .f32
  | 0 => key
  | t + 1 => cellStep v1 v3 (S t) (Q t) (hist v1 v3 S Q key t) key

/-- The vectors of sentence `t`, as they lie in the scratch array. -/
def sentAt (arg9 : Memref sig .tc .vmem S20x32x256 .f32) (X9 : BufTy.Contents (Elt F) arg9.view.ty) (t : ℕ) :
    Vec F S1x32x256 .f32 :=
  arg9.view.readAt (Elt F) (Rect.unit (s := S20x32x256) ![t % 20, 0, 0] S1x32x256.size (fun a => by
    fin_cases a
    · show t % 20 + 1 ≤ 20; omega
    · show 0 + 32 ≤ 32; omega
    · show 0 + 256 ≤ 256; omega)).toLoadRect X9

/-- The mask of sentence `t`, as it lies in the scratch array. -/
def maskAt (arg10 : Memref sig .tc .vmem S20x1x256 .f32) (X10 : BufTy.Contents (Elt F) arg10.view.ty) (t : ℕ) :
    Vec F S1x1x256 .f32 :=
  arg10.view.readAt (Elt F) (Rect.unit (s := S20x1x256) ![t % 20, 0, 0] S1x1x256.size (fun a => by
    fin_cases a
    · show t % 20 + 1 ≤ 20; omega
    · show 0 + 1 ≤ 1; omega
    · show 0 + 256 ≤ 256; omega)).toLoadRect X10

/-- Trip `k` of the loop reads the sentences `4 k` to `4 k + 3`; -/
theorem sentOf_eq (arg9 : Memref sig .tc .vmem S20x32x256 .f32) (X9 : BufTy.Contents (Elt F) arg9.view.ty)
    (k : Fin k0_t1_loop.trips) (j : ℕ) (hj : j < 4) : sentOf arg9 X9 k j = sentAt arg9 X9 (4 * k.val + j) := by
  have hk : k.val < 5 := k.isLt
  unfold sentAt
  match j, hj with
  | 0, _ => exact View.readAt_unit_eq_of_eq _ _ (by rw [k0_off1_eq]; congr 1; omega) _
  | 1, _ => exact View.readAt_unit_eq_of_eq _ _ ((k0_off3_eq k 0).trans (by congr 1; show 4 * k.val + 0 + 1 = _; omega)) _
  | 2, _ => exact View.readAt_unit_eq_of_eq _ _ ((k0_off3_eq k 1).trans (by congr 1; show 4 * k.val + 1 + 1 = _; omega)) _
  | 3, _ => exact View.readAt_unit_eq_of_eq _ _ ((k0_off3_eq k 2).trans (by congr 1; show 4 * k.val + 2 + 1 = _; omega)) _

/-- and their masks. -/
theorem maskOf_eq (arg10 : Memref sig .tc .vmem S20x1x256 .f32) (X10 : BufTy.Contents (Elt F) arg10.view.ty)
    (k : Fin k0_t1_loop.trips) (j : ℕ) (hj : j < 4) : maskOf arg10 X10 k j = maskAt arg10 X10 (4 * k.val + j) := by
  have hk : k.val < 5 := k.isLt
  unfold maskAt
  match j, hj with
  | 0, _ => exact View.readAt_unit_eq_of_eq _ _ (by rw [k0_off2_eq]; congr 1; omega) _
  | 1, _ => exact View.readAt_unit_eq_of_eq _ _ ((k0_off4_eq k 0).trans (by congr 1; show 4 * k.val + 0 + 1 = _; omega)) _
  | 2, _ => exact View.readAt_unit_eq_of_eq _ _ ((k0_off4_eq k 1).trans (by congr 1; show 4 * k.val + 1 + 1 = _; omega)) _
  | 3, _ => exact View.readAt_unit_eq_of_eq _ _ ((k0_off4_eq k 2).trans (by congr 1; show 4 * k.val + 2 + 1 = _; omega)) _

section Run

variable (𝒱 : Variants) (c : Dev nD) (bd : Option 𝒱.V) (i : grid0.Coords) (arg1 : Memref sig .tc .vmem S256x640 .f32) (harg1 : arg1.IsWhole) (arg2 : Memref sig .tc .vmem S256x20 .f32) (harg2 : arg2.IsWhole) (arg3 : Memref sig .tc .vmem S256x2048 .f32) (harg3 : arg3.IsWhole) (arg4 : Memref sig .tc .vmem S32x64 .f32) (harg4 : arg4.IsWhole) (arg5 : Memref sig .tc .vmem S32x32 .f32) (harg5 : arg5.IsWhole) (arg6 : Memref sig .tc .vmem S256x2048 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S20x32x256 .f32) (harg9 : arg9.IsWhole) (arg10 : Memref sig .tc .vmem S20x1x256 .f32) (harg10 : arg10.IsWhole) (v1 : FVec F S32x64 .f32) (v3 : FVec F S32x32 .f32) (c0_i32 : BitVec 32) (c1_i32 : BitVec 32) (X8 : BufTy.Contents (Elt F) arg8.view.ty) (X9 : BufTy.Contents (Elt F) arg9.view.ty) (X10 : BufTy.Contents (Elt F) arg10.view.ty) (G : BufTy.Contents (Elt F) arg7.view.ty)

/-- After `k` trips a cell has gone through the first `4 k` sentences. -/
theorem cellAt_trips (m : ℕ) (hm : cellAt arg7 G m = cellAt arg8 X8 m) (k : ℕ) (hk : k ≤ 5) :
    cellAt arg7 (arg7.view.writes (Elt F) G (pb_k0_t1 𝒱 c bd i arg1 harg1 arg2 harg2 arg3 harg3 arg4 harg4 arg5 harg5 arg6 harg6 arg7 harg7 arg8 harg8 arg9 harg9 arg10 harg10 v1 v3 c0_i32 c1_i32 X8 X9 X10 G k)) m
      = hist v1 v3 (sentAt arg9 X9) (maskAt arg10 X10) (cellAt arg8 X8 m) (4 * k) := by
  induction k with
  | zero => exact hm
  | succ k ih =>
    have hk' : k < k0_t1_loop.trips := hk
    have hs := pb_k0_t1_succ 𝒱 c bd i arg1 harg1 arg2 harg2 arg3 harg3 arg4 harg4 arg5 harg5 arg6 harg6 arg7 harg7 arg8 harg8 arg9 harg9 arg10 harg10 v1 v3 c0_i32 c1_i32 X8 X9 X10 G ⟨k, hk'⟩
    rw [show pb_k0_t1 𝒱 c bd i arg1 harg1 arg2 harg2 arg3 harg3 arg4 harg4 arg5 harg5 arg6 harg6 arg7 harg7 arg8 harg8 arg9 harg9 arg10 harg10 v1 v3 c0_i32 c1_i32 X8 X9 X10 G (k + 1) = _ from hs,
      View.writes_append, tripL_eq, show 256 = 64 * (3 + 1) from rfl, cellAt_sentence, show 3 = 2 + 1 from rfl,
      cellAt_sentence, show 2 = 1 + 1 from rfl, cellAt_sentence, show 1 = 0 + 1 from rfl, cellAt_sentence,
      show cellAt arg7 (arg7.view.writes (Elt F) _ (stores v1 v3 _ _ arg7 arg8 X8 _ (64 * 0))) m = _ from ih (by omega)]
    rw [sentOf_eq _ _ _ 0 (by omega), sentOf_eq _ _ _ 1 (by omega), sentOf_eq _ _ _ 2 (by omega), sentOf_eq _ _ _ 3 (by omega),
      maskOf_eq _ _ _ 0 (by omega), maskOf_eq _ _ _ 1 (by omega), maskOf_eq _ _ _ 2 (by omega), maskOf_eq _ _ _ 3 (by omega)]
    rfl

end Run

end Cert.KernelIdeal.Cells

end
-- ==== Proof.Block.lean ====
/- What one grid point of the kernel writes: each element of its output block is the memory cell after the twenty
   sentences, its sentences, masks and key read straight from the point's input blocks. -/
module

public import proofs.«01_k».proof.Proof.Loop
public import proofs.«01_k».proof.Proof.Gen.KernelIdeal.Frame
public import Idealize.ShloMosaic.Lib.PointwiseCore
public import Idealize.ShloMosaic.Lib.VecWindow

@[expose] public section

set_option maxRecDepth 16384

noncomputable section

namespace Cert.KernelIdeal.Cells

open Idealize.ShloMosaic Idealize.ShloMosaic.TcCoe
open Cert.KernelIdeal Cert.KernelIdeal.Gen

variable {F : FTy → Type} [FloatOps F]

/-- The part of the scratch array that holds sentence `t`'s vectors. -/
abbrev sentRect (t : ℕ) : Rect S20x32x256 :=
  Rect.unit (s := S20x32x256) ![t % 20, 0, 0] S1x32x256.size (fun a => by
    fin_cases a
    · show t % 20 + 1 ≤ 20; omega
    · show 0 + 32 ≤ 32; omega
    · show 0 + 256 ≤ 256; omega)

/-- The part of the scratch array that holds sentence `t`'s mask. -/
abbrev maskRect (t : ℕ) : Rect S20x1x256 :=
  Rect.unit (s := S20x1x256) ![t % 20, 0, 0] S1x1x256.size (fun a => by
    fin_cases a
    · show t % 20 + 1 ≤ 20; omega
    · show 0 + 1 ≤ 1; omega
    · show 0 + 256 ≤ 256; omega)

/-- Sentence `t`'s rows lie inside the transposed block of sentences. -/
theorem slices_sent (t : ℕ) : S640x256.Slices ![32 * (t % 20), 0] S32x256 :=
  ⟨rfl, fun a => by
    fin_cases a
    · show 32 * (t % 20) + 32 ≤ 640; omega
    · show 0 + 256 ≤ 256; omega⟩

/-- Sentence `t`'s row lies inside the transposed block of masks. -/
theorem slices_mask (t : ℕ) : S20x256.Slices ![t % 20, 0] S1x256 :=
  ⟨rfl, fun a => by
    fin_cases a
    · show t % 20 + 1 ≤ 20; omega
    · show 0 + 256 ≤ 256; omega⟩

/-- Sentence `t` as the kernel cuts it from the transposed block. -/
def sentCut (v15 : FVec F S640x256 .f32) (t : ℕ) : FVec F S1x32x256 .f32 :=
  shapeCast S1x32x256 (extractStridedSlice S32x256 ![32 * (t % 20), 0] v15 (slices_sent t)) shapeCasts_S32x256_S1x32x256

/-- The mask of sentence `t` as the kernel cuts it from the transposed block. -/
def maskCut (v18 : FVec F S20x256 .f32) (t : ℕ) : FVec F S1x1x256 .f32 :=
  shapeCast S1x1x256 (extractStridedSlice S1x256 ![t % 20, 0] v18 (slices_mask t)) shapeCasts_S1x256_S1x1x256

/-- The stores that lay out the first `n` sentences, the last first. -/
def sentStores (v15 : FVec F S640x256 .f32) : ℕ → List (View.Piece (Elt F) S20x32x256 .f32)
  | 0 => []
  | n + 1 => ⟨sentRect n, sentCut v15 n⟩ :: sentStores v15 n

/-- The stores that lay out the first `n` masks, the last first. -/
def maskStores (v18 : FVec F S20x256 .f32) : ℕ → List (View.Piece (Elt F) S20x1x256 .f32)
  | 0 => []
  | n + 1 => ⟨maskRect n, maskCut v18 n⟩ :: maskStores v18 n

/-- A sentence that has been laid out is what its load finds. -/
theorem sentAt_stores (arg9 : Memref sig .tc .vmem S20x32x256 .f32) (f : BufTy.Contents (Elt F) arg9.view.ty)
    (v15 : FVec F S640x256 .f32) (n t : ℕ) (ht : t < n) (hn : n ≤ 20) :
    sentAt arg9 (arg9.view.writes (Elt F) f (sentStores v15 n)) t = sentCut v15 t := by
  induction n with
  | zero => omega
  | succ n ih =>
    funext x
    show arg9.view.readAt (Elt F) (sentRect t).toLoadRect _ x = _
    rw [View.readAt_apply, sentStores]
    by_cases h : t = n
    · subst h
      exact View.read_writes_cons_emb arg9.view f (sentRect t) _ _ x
    · rw [← ih (by omega) (by omega)]
      show _ = arg9.view.readAt (Elt F) (sentRect t).toLoadRect _ x
      rw [View.readAt_apply]
      refine View.read_writes_cons_miss_of_axis _ _ _ _ _ 0 (n % 20) 1 rfl rfl rfl ?_
      have h0 : (x 0).val < 1 := (x 0).isLt
      show t % 20 + 1 * (x 0).val < _ ∨ _ ≤ t % 20 + 1 * (x 0).val
      omega

/-- A mask that has been laid out is what its load finds. -/
theorem maskAt_stores (arg10 : Memref sig .tc .vmem S20x1x256 .f32) (f : BufTy.Contents (Elt F) arg10.view.ty)
    (v18 : FVec F S20x256 .f32) (n t : ℕ) (ht : t < n) (hn : n ≤ 20) :
    maskAt arg10 (arg10.view.writes (Elt F) f (maskStores v18 n)) t = maskCut v18 t := by
  induction n with
  | zero => omega
  | succ n ih =>
    funext x
    show arg10.view.readAt (Elt F) (maskRect t).toLoadRect _ x = _
    rw [View.readAt_apply, maskStores]
    by_cases h : t = n
    · subst h
      exact View.read_writes_cons_emb arg10.view f (maskRect t) _ _ x
    · rw [← ih (by omega) (by omega)]
      show _ = arg10.view.readAt (Elt F) (maskRect t).toLoadRect _ x
      rw [View.readAt_apply]
      refine View.read_writes_cons_miss_of_axis _ _ _ _ _ 0 (n % 20) 1 rfl rfl rfl ?_
      have h0 : (x 0).val < 1 := (x 0).isLt
      show t % 20 + 1 * (x 0).val < _ ∨ _ ≤ t % 20 + 1 * (x 0).val
      omega

/-- A history depends on its sentences and masks only as far as it has gone. -/
theorem hist_congr (v1 : FVec F S32x64 .f32) (v3 : FVec F S32x32 .f32) (S S' : ℕ → Vec F S1x32x256 .f32)
    (Q Q' : ℕ → Vec F S1x1x256 .f32) (key : FVec F S32x256 .f32) (n : ℕ) (hS : ∀ t, t < n → S t = S' t)
    (hQ : ∀ t, t < n → Q t = Q' t) : hist v1 v3 S Q key n = hist v1 v3 S' Q' key n := by
  induction n with
  | zero => rfl
  | succ n ih =>
    rw [hist, hist, hS n (by omega), hQ n (by omega), ih (fun t h => hS t (by omega)) (fun t h => hQ t (by omega))]

section Run

variable (c : Dev nD) (i : grid0.Coords) (arg1 : Memref sig .tc .vmem S256x640 .f32) (harg1 : arg1.IsWhole) (arg2 : Memref sig .tc .vmem S256x20 .f32) (harg2 : arg2.IsWhole) (arg3 : Memref sig .tc .vmem S256x2048 .f32) (harg3 : arg3.IsWhole) (arg4 : Memref sig .tc .vmem S32x64 .f32) (harg4 : arg4.IsWhole) (arg5 : Memref sig .tc .vmem S32x32 .f32) (harg5 : arg5.IsWhole) (arg6 : Memref sig .tc .vmem S256x2048 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S20x32x256 .f32) (harg9 : arg9.IsWhole) (arg10 : Memref sig .tc .vmem S20x1x256 .f32) (harg10 : arg10.IsWhole)
variable (x0 : Vec F S256x640 .f32) (x1 : Vec F S256x20 .f32) (x2 : Vec F S256x2048 .f32) (x3 : Vec F S32x64 .f32) (x4 : Vec F S32x32 .f32)

/-- The whole of a staged block, as the kernel loads it. -/
abbrev loadAll {s : Shape} (arg : Memref sig .tc .vmem s .f32) (harg : arg.IsWhole) (x : Vec F s .f32) (off : Fin s.rank → ℕ)
    (inb : ∀ a, off a + s.size a ≤ s.size a) : Vec F s .f32 :=
  arg.view.readAt (Elt F) (Rect.unit (s := s) off s.size inb).toLoadRect (harg.unread x)

/-- Loading the whole of a block finds the block. -/
theorem loadAll_eq {s : Shape} (arg : Memref sig .tc .vmem s .f32) (harg : arg.IsWhole) (x : Vec F s .f32)
    (off : Fin s.rank → ℕ) (inb : ∀ a, off a + s.size a ≤ s.size a) : loadAll arg harg x off inb = x := by
  unfold loadAll
  rw [View.readAt_full, harg.read_unread]

/-- The keys laid out in the scratch array, one cell below another. -/
abbrev keyStores (w : FVec F S2048x256 .f32) : List (View.Piece (Elt F) S2048x256 .f32) :=
  [⟨Rect.unit (s := S2048x256) ![0, 0] S2048x256.size inb_S2048x256_S2048x256_0_0, w⟩]

/-- The run's one store to the output block: the transpose of the scratch array as the loop leaves it. -/
theorem run_eq :
    (kernelRun0_A c i arg1 harg1 arg2 harg2 arg3 harg3 arg4 harg4 arg5 harg5 arg6 harg6 arg7 harg7 arg8 harg8 arg9 harg9 arg10 harg10 x0 x1 x2 x3 x4).1
      = [⟨Rect.unit (s := S256x2048) ![0, 0] S256x2048.size inb_S256x2048_S256x2048_0_0,
          k0_pay2 (arg7.view.readCov
            (pb_k0_t1 Variants.none c none i arg1 harg1 arg2 harg2 arg3 harg3 arg4 harg4 arg5 harg5 arg6 harg6 arg7 harg7 arg8 harg8 arg9 harg9 arg10 harg10
              (k0_pay553 (loadAll arg4 harg4 x3 ![0, 0] inb_S32x64_S32x64_0_0))
              (k0_pay554 (loadAll arg5 harg5 x4 ![0, 0] inb_S32x32_S32x32_0_0)) 0#32 1#32
              (arg8.view.writes (Elt F) arg8.view.junk (keyStores (k0_pay556 (loadAll arg3 harg3 x2 ![0, 0] inb_S256x2048_S256x2048_0_0))))
              (arg9.view.writes (Elt F) arg9.view.junk (sentStores (k0_pay558 (loadAll arg1 harg1 x0 ![0, 0] inb_S256x640_S256x640_0_0)) 20))
              (arg10.view.writes (Elt F) arg10.view.junk (maskStores (k0_pay559 (loadAll arg2 harg2 x1 ![0, 0] inb_S256x20_S256x20_0_0)) 20))
              (arg7.view.writes (Elt F) arg7.view.junk (keyStores (k0_pay557 (loadAll arg3 harg3 x2 ![0, 0] inb_S256x2048_S256x2048_0_0)))) 5
            ++ keyStores (k0_pay557 (loadAll arg3 harg3 x2 ![0, 0] inb_S256x2048_S256x2048_0_0)))
            (Rect.unit (s := S2048x256) ![0, 0] S2048x256.size inb_S2048x256_S2048x256_0_0).toLoadRect)⟩] := by
  sl_kernel_rfl

/-- What each grid point leaves in its output block, before its elements are named: the transpose of the cells' histories. -/
theorem out_apply (b : Fin 256) (m : ℕ) (d : Fin 32) (r : Fin 2048) (hr : r.val = 32 * m + d.val) (hm : m < 64) :
    out0_A_5 c i arg1 harg1 arg2 harg2 arg3 harg3 arg4 harg4 arg5 harg5 arg6 harg6 arg7 harg7 arg8 harg8 arg9 harg9 arg10 harg10 x0 x1 x2 x3 x4 (ix2 b r)
      = hist (k0_pay553 x3) (k0_pay554 x4) (sentCut (k0_pay558 x0)) (maskCut (k0_pay559 x1))
          (fun x => k0_pay556 x2 ((cellRect m).emb x)) 20 (ix2 d b) := by
  unfold out0_A_5
  rw [run_eq, View.read_writes_full]
  simp only [loadAll_eq]
  unfold k0_pay2
  pointwise
  rw [View.readCov, View.readAt_full, View.writes_append]
  have hy : (ix2 r b : S2048x256.Idx) = (cellRect m).emb (ix2 d b) := by
    funext a
    apply Fin.ext
    match a with
    | 0 => show r.val = 32 * (m % 64) + 1 * d.val; omega
    | 1 => show b.val = 0 + 1 * b.val; omega
  have hkey (arg : Memref sig .tc .vmem S2048x256 .f32) (f : BufTy.Contents (Elt F) arg.view.ty) (w : FVec F S2048x256 .f32) :
      cellAt arg (arg.view.writes (Elt F) f (keyStores w)) m = fun x => w ((cellRect m).emb x) := by
    funext x
    rw [cellAt_apply, View.read_writes_full]
  rw [hy, ← cellAt_apply, cellAt_trips _ _ _ _ _ _ _ _ _ _ _ _ _ _ _ _ _ _ _ _ _ _ _ _ _ _ _ _ _ _ _ _ m ?_ 5 le_rfl, hkey]
  · refine congrFun (hist_congr _ _ _ _ _ _ _ 20 (fun t ht => ?_) (fun t ht => ?_)) _
    · exact sentAt_stores _ _ _ 20 t ht le_rfl
    · exact maskAt_stores _ _ _ 20 t ht le_rfl
  · rw [hkey, hkey]; rfl

end Run

end Cert.KernelIdeal.Cells

end
-- ==== Proof.Rows.lean ====
/- The equation between the two programs, on one memory cell of one batch row: thirty-two numbers, updated by twenty
   sentences. The kernel writes the two gates with hyperbolic tangents of halved sums and adds the cell to its key
   before the product with the sentence; the reference writes them with exponentials and adds the two products. -/
module

public import Idealize.ShloMosaic.PureOps.Ideal
public import Idealize.ShloMosaic.Lib.IdealHost
public import Mathlib.Analysis.Complex.Trigonometric
public import Mathlib.Data.EReal.Inv

@[expose] public section

noncomputable section

namespace Cert.Rows

open Idealize.ShloMosaic

/-- The numbers of one memory cell. -/
abbrev Row := Fin 32 → EReal

/-- The kernel's half. -/
abbrev half : EReal := Ideal.ofBits .f32 1056964608#32
/-- The kernel's quarter. -/
abbrev quarter : EReal := Ideal.ofBits .f32 1048576000#32
/-- The least squared norm either program divides by. -/
abbrev floor : EReal := Ideal.ofBits .f32 730643660#32

/-- The kernel's half is the real one half. -/
theorem half_eq : half = (((1 : ℝ) / 2 : ℝ) : EReal) := by
  simp [half, Ideal.ofBits, Ideal.ieee, -EReal.coe_mul]; norm_num

/-- The kernel's quarter is the real one quarter. -/
theorem quarter_eq : quarter = (((1 : ℝ) / 4 : ℝ) : EReal) := by
  simp [quarter, Ideal.ofBits, Ideal.ieee, -EReal.coe_mul]; norm_num

/-- The least squared norm is a positive real. -/
theorem floor_pos : ∃ e : ℝ, 0 < e ∧ floor = (e : EReal) := by
  refine ⟨(1 + 834764 / 2 ^ 23) * 2 ^ (-40 : ℤ), by positivity, ?_⟩
  simp [floor, Ideal.ofBits, Ideal.ieee, -EReal.coe_mul]; norm_num

/-! ## The gates -/

/-- The hyperbolic tangent at the lower infinity. -/
theorem tanh_bot : Ideal.tanh ⊥ = ((-1 : ℝ) : EReal) := rfl
/-- The hyperbolic tangent at the upper infinity. -/
theorem tanh_top : Ideal.tanh ⊤ = ((1 : ℝ) : EReal) := rfl
/-- The exponential at the lower infinity. -/
theorem exp_bot : Ideal.exp ⊥ = 0 := rfl
/-- The exponential at the upper infinity. -/
theorem exp_top : Ideal.exp ⊤ = ⊤ := rfl
/-- The exponential of a real number. -/
theorem exp_coe (r : ℝ) : Ideal.exp (r : EReal) = (Real.exp r : EReal) := rfl
/-- The inverse root at the upper infinity. -/
theorem rsqrt_top : Ideal.rsqrt ⊤ = 0 := rfl

/-- The reference's gate. -/
def gate (x : EReal) : EReal := Ideal.div 1 (1 + Ideal.exp (-x))

/-- A hyperbolic tangent is a real number. -/
theorem tanh_real (x : EReal) : ∃ r : ℝ, Ideal.tanh x = (r : EReal) := by
  induction x with
  | bot => exact ⟨-1, tanh_bot⟩
  | top => exact ⟨1, tanh_top⟩
  | coe r => exact ⟨Real.tanh r, rfl⟩

/-- On the reals, the gate by the half argument's hyperbolic tangent. -/
theorem real_gate (r : ℝ) : (1 + Real.exp (-r))⁻¹ = 1 / 2 * Real.tanh (1 / 2 * r) + 1 / 2 := by
  rw [Real.tanh_eq]
  have e : Real.exp (-r) = Real.exp (-(1 / 2 * r)) * Real.exp (-(1 / 2 * r)) := by
    rw [← Real.exp_add]; congr 1; ring
  have e1 : Real.exp (1 / 2 * r) * Real.exp (-(1 / 2 * r)) = 1 := by
    rw [← Real.exp_add, add_neg_cancel, Real.exp_zero]
  have p := Real.exp_pos (1 / 2 * r)
  have q := Real.exp_pos (-(1 / 2 * r))
  rw [e]
  generalize Real.exp (1 / 2 * r) = a at *
  generalize Real.exp (-(1 / 2 * r)) = b at *
  have h1 : 1 + b * b ≠ 0 := by positivity
  have h2 : a + b ≠ 0 := by positivity
  field_simp
  linear_combination (-2 : ℝ) * b * e1

/-- The gate of any extended real, by the hyperbolic tangent of its half. -/
theorem gate_eq (x : EReal) (T : ℝ) (h : Ideal.tanh (half * x) = (T : EReal)) :
    gate x = ((1 / 2 * T + 1 / 2 : ℝ) : EReal) := by
  rw [half_eq] at h
  induction x with
  | bot =>
    rw [EReal.coe_mul_bot_of_pos (by norm_num)] at h
    have h' : ((-1 : ℝ) : EReal) = (T : EReal) := by rw [← h, tanh_bot]
    rw [← EReal.coe_injective h', gate, EReal.neg_bot, exp_top, EReal.add_top_of_ne_bot (by exact EReal.coe_ne_bot 1 : (1 : EReal) ≠ ⊥), Ideal.div,
      if_neg (by simp), EReal.inv_top, mul_zero]
    norm_num
  | top =>
    rw [EReal.coe_mul_top_of_pos (by norm_num)] at h
    have h' : ((1 : ℝ) : EReal) = (T : EReal) := by rw [← h, tanh_top]
    rw [← EReal.coe_injective h', gate, EReal.neg_top, exp_bot, add_zero, Ideal.div, if_neg one_ne_zero, one_mul,
      ← EReal.coe_one, ← EReal.coe_inv]
    norm_num
  | coe r =>
    have h' : T = Real.tanh (1 / 2 * r) := by
      rw [← EReal.coe_mul] at h
      exact (EReal.coe_injective h).symm
    have p := Real.exp_pos (-r)
    rw [h', ← real_gate]
    have e : (1 : EReal) + Ideal.exp (-(r : EReal)) = ((1 + Real.exp (-r) : ℝ) : EReal) := by
      rw [← EReal.coe_neg, exp_coe, EReal.coe_add, EReal.coe_one]
    have ne : ((1 + Real.exp (-r) : ℝ) : EReal) ≠ 0 := by
      intro h0; have := EReal.coe_eq_zero.mp h0; linarith
    rw [gate, e, Ideal.div, if_neg ne, one_mul, EReal.coe_inv]

/-- The product of the kernel's two gates is that of the reference's, and is a real number. -/
theorem gates_eq (x y : EReal) :
    (quarter * Ideal.tanh (half * x) + quarter) * (Ideal.tanh (half * y) + 1) = gate x * gate y
      ∧ ∃ r : ℝ, gate x * gate y = (r : EReal) := by
  obtain ⟨S, hS⟩ := tanh_real (half * x)
  obtain ⟨T, hT⟩ := tanh_real (half * y)
  rw [gate_eq x S hS, gate_eq y T hT, hS, hT, quarter_eq, ← EReal.coe_one]
  constructor
  · simp only [← EReal.coe_mul, ← EReal.coe_add]
    congr 1; ring
  · exact ⟨_, (EReal.coe_mul _ _).symm⟩

/-! ## The sums -/

/-- Half of a sum of two is the sum of the halves. -/
theorem half_add (x y : EReal) : half * (x + y) = half * x + half * y := by
  rw [half_eq]
  exact EReal.left_distrib_of_nonneg_of_ne_top (EReal.coe_nonneg.mpr (by norm_num)) (EReal.coe_ne_top _) x y

/-- Half of a sum is the sum of the halves. -/
theorem half_sum {n : ℕ} (f : Fin n → EReal) : half * ∑ x, f x = ∑ x, half * f x := by
  classical
  induction (Finset.univ : Finset (Fin n)) using Finset.induction_on with
  | empty => simp
  | insert a t ha ih => rw [Finset.sum_insert ha, Finset.sum_insert ha, half_add, ih]

/-- Halving the matrix entries halves the sum of products. -/
theorem half_dot (u h : Row) : ∑ x, half * u x * h x = half * ∑ x, h x * u x := by
  rw [half_sum]
  exact Finset.sum_congr rfl fun x _ => by rw [mul_assoc, mul_comm (u x)]

/-- A real number distributes over the sum of a key and a cell that is either the key or a real number. -/
theorem real_distrib (a : ℝ) (h k : EReal) (g : h = k ∨ ∃ r : ℝ, h = (r : EReal)) :
    (a : EReal) * (h + k) = a * h + a * k := by
  have inf : ∀ z : EReal, (z = ⊤ ∨ z = ⊥) → (a : EReal) * z = a * z + a * z ∧ ∀ r : ℝ, (a : EReal) * z = a * r + a * z := by
    intro z hz
    rcases lt_trichotomy a 0 with n | n | n
    · rcases hz with rfl | rfl
      · rw [EReal.coe_mul_top_of_neg n]
        exact ⟨by simp, fun r => by rw [← EReal.coe_mul]; first | rw [EReal.coe_add_top] | rw [EReal.add_bot]⟩
      · rw [EReal.coe_mul_bot_of_neg n]
        exact ⟨by simp, fun r => by rw [← EReal.coe_mul]; first | rw [EReal.coe_add_top] | rw [EReal.add_bot]⟩
    · subst n; simp
    · rcases hz with rfl | rfl
      · rw [EReal.coe_mul_top_of_pos n]
        exact ⟨by simp, fun r => by rw [← EReal.coe_mul]; first | rw [EReal.coe_add_top] | rw [EReal.add_bot]⟩
      · rw [EReal.coe_mul_bot_of_pos n]
        exact ⟨by simp, fun r => by rw [← EReal.coe_mul]; first | rw [EReal.coe_add_top] | rw [EReal.add_bot]⟩
  induction k with
  | coe q =>
    have : ∃ r : ℝ, h = (r : EReal) := by
      rcases g with g | g
      · exact ⟨q, g⟩
      · exact g
    obtain ⟨r, rfl⟩ := this
    simp only [← EReal.coe_mul, ← EReal.coe_add]
    congr 1; ring
  | top =>
    rcases g with rfl | ⟨r, rfl⟩
    · rw [EReal.top_add_top]; exact (inf ⊤ (.inl rfl)).1
    · rw [EReal.coe_add_top]; exact (inf ⊤ (.inl rfl)).2 r
  | bot =>
    rcases g with rfl | ⟨r, rfl⟩
    · rw [EReal.add_bot]; exact (inf ⊥ (.inr rfl)).1
    · rw [EReal.add_bot]; exact (inf ⊥ (.inr rfl)).2 r

/-! ## The normalization -/

/-- A cell scaled to norm one, as both programs write it. -/
def unitRow (u : Row) : Row := fun d => u d * Ideal.rsqrt (max (∑ x, u x * u x) floor)

/-- A square is not negative. -/
theorem sq_nonneg' (x : EReal) : 0 ≤ x * x := by
  induction x with
  | bot => simp
  | top => simp
  | coe r => rw [← EReal.coe_mul]; exact EReal.coe_nonneg.mpr (mul_self_nonneg r)

/-- A number whose square is below the infinity is real. -/
theorem real_of_sq {x : EReal} (h : x * x < ⊤) : ∃ r : ℝ, x = (r : EReal) := by
  induction x with
  | bot => simp at h
  | top => simp at h
  | coe r => exact ⟨r, rfl⟩

/-- The inverse root of a positive real is real. -/
theorem rsqrt_real {r : ℝ} (h : 0 < r) : ∃ q : ℝ, Ideal.rsqrt (r : EReal) = (q : EReal) :=
  ⟨(Real.sqrt r)⁻¹, by
    show (if r < 0 then (⊥ : EReal) else if r = 0 then ⊤ else ((Real.sqrt r)⁻¹ : ℝ)) = _
    rw [if_neg (not_lt.mpr h.le), if_neg h.ne']⟩

/-- Whatever the cell holds, its normalization holds real numbers: a cell with an infinity is scaled to zero. -/
theorem unitRow_real (u : Row) (d : Fin 32) : ∃ r : ℝ, unitRow u d = (r : EReal) := by
  obtain ⟨e, he, hf⟩ := floor_pos
  have hle : u d * u d ≤ ∑ x, u x * u x :=
    Finset.single_le_sum (f := fun x => u x * u x) (fun x _ => sq_nonneg' (u x)) (Finset.mem_univ d)
  have h0 : (0 : EReal) ≤ ∑ x, u x * u x := Finset.sum_nonneg fun x _ => sq_nonneg' (u x)
  unfold unitRow
  rw [hf]
  generalize (∑ x, u x * u x) = S at hle h0 ⊢
  induction S with
  | bot => exact absurd h0 (by simp)
  | top => exact ⟨0, by rw [max_eq_left le_top, rsqrt_top, mul_zero, EReal.coe_zero]⟩
  | coe S =>
    obtain ⟨r, hr⟩ := real_of_sq (lt_of_le_of_lt hle (EReal.coe_lt_top S))
    have hm : max (S : EReal) (e : EReal) = ((max S e : ℝ) : EReal) := (EReal.coe_strictMono.monotone.map_max).symm
    obtain ⟨q, hq⟩ := rsqrt_real (lt_of_lt_of_le he (le_max_right S e))
    rw [hm, hq, hr]
    exact ⟨r * q, (EReal.coe_mul _ _).symm⟩

/-! ## One sentence, and all of them -/

variable (U V W : Fin 32 → Fin 32 → EReal)

/-- The cell the reference normalizes. -/
def refUpd (s k h : Row) : Row := fun d =>
  h d + gate (∑ x, (s x * h x + s x * k x)) * gate (∑ x, h x * U x d + ∑ x, k x * V x d + ∑ x, s x * W x d)

/-- The cell the kernel normalizes. -/
def kerUpd (s k h : Row) : Row := fun d =>
  h d + (quarter * Ideal.tanh (half * ∑ x, s x * (h x + k x)) + quarter)
    * (Ideal.tanh (∑ x, half * U x d * h x + ∑ x, half * V x d * k x + ∑ x, half * W x d * s x) + 1)

/-- The two updates agree for a real sentence and a cell whose numbers are the key's or real. -/
theorem upd_eq (s k h : Row) (hs : ∀ x, ∃ r : ℝ, s x = (r : EReal)) (hh : ∀ x, h x = k x ∨ ∃ r : ℝ, h x = (r : EReal)) :
    kerUpd U V W s k h = refUpd U V W s k h := by
  funext d
  have e : ∑ x, s x * (h x + k x) = ∑ x, (s x * h x + s x * k x) :=
    Finset.sum_congr rfl fun x _ => by
      obtain ⟨a, ha⟩ := hs x
      rw [ha]; exact real_distrib a _ _ (hh x)
  unfold kerUpd refUpd
  rw [e, half_dot (fun x => U x d) h, half_dot (fun x => V x d) k, half_dot (fun x => W x d) s, ← half_add, ← half_add,
    (gates_eq _ _).1]

/-- The cell after the first `t` sentences, for an update `upd`: a sentence whose bit is zero leaves it alone. -/
def run (upd : Row → Row → Row → Row) (S : ℕ → Row) (bit : ℕ → BitVec 1) (k : Row) : ℕ → Row
  | 0 => k
  | t + 1 => fun d => Scalar.select (bit t) (unitRow (upd (S t) k (run upd S bit k t)) d) (run upd S bit k t d)

/-- At every sentence, each number of the cell is the key's or real. -/
theorem run_good (upd : Row → Row → Row → Row) (S : ℕ → Row) (bit : ℕ → BitVec 1) (k : Row) (t : ℕ) (d : Fin 32) :
    run upd S bit k t d = k d ∨ ∃ r : ℝ, run upd S bit k t d = (r : EReal) := by
  induction t with
  | zero => exact .inl rfl
  | succ t ih =>
    unfold run Scalar.select
    split
    · exact .inr (unitRow_real _ d)
    · exact ih

/-- The two programs' cells agree after any number of sentences, when the sentences are real. -/
theorem run_eq (S : ℕ → Row) (bit : ℕ → BitVec 1) (k : Row) (t : ℕ) (hS : ∀ n < t, ∀ x, ∃ r : ℝ, S n x = (r : EReal)) :
    run (kerUpd U V W) S bit k t = run (refUpd U V W) S bit k t := by
  induction t with
  | zero => rfl
  | succ t ih =>
    have e := ih fun n hn => hS n (by omega)
    unfold run
    rw [e, upd_eq U V W _ _ _ (hS t (by omega)) (run_good _ S bit k t)]

end Cert.Rows

end
-- ==== Proof.KernelRows.lean ====
/- The kernel's twenty updates of one memory cell, read at one batch column: the row of thirty-two numbers that
   `Cert.Rows.run` describes. -/
module

public import proofs.«01_k».proof.Proof.Loop
public import proofs.«01_k».proof.Proof.Rows
public import Idealize.ShloMosaic.Lib.Pointwise

@[expose] public section

set_option maxRecDepth 16384

noncomputable section

namespace Cert.KernelIdeal.Cells

open Idealize.ShloMosaic Idealize.ShloMosaic.TcCoe
open Cert.KernelIdeal Cert.KernelIdeal.Gen Cert.Rows

/-- A mask bit as the number the kernel compares with one half. -/
abbrev bitNum (p : BitVec 1) : EReal := ((p.toNat : ℝ) : EReal)

/-- The kernel's comparison with one half decides the mask bit. -/
theorem half_lt_bit {α : Type} (p : BitVec 1) (x y : α) [Decidable (half < bitNum p)] :
    (if half < bitNum p then x else y) = Scalar.select p x y := by
  rcases BitVec.eq_zero_or_eq_one p with rfl | rfl
  · rw [if_neg]
    · rfl
    · rw [half_eq, not_lt]; exact EReal.coe_le_coe_iff.mpr (by norm_num)
  · rw [if_pos]
    · rfl
    · rw [half_eq]; exact EReal.coe_lt_coe_iff.mpr (by norm_num)

variable (U V W : Fin 32 → Fin 32 → EReal) (v1 : FVec Ideal S32x64 .f32) (v3 : FVec Ideal S32x32 .f32)

/-- One update of a cell, at one batch column. -/
theorem cellStep_apply (s : Vec Ideal S1x32x256 .f32) (q : Vec Ideal S1x1x256 .f32) (h kt : FVec Ideal S32x256 .f32)
    (b : Fin 256) (d : Fin 32) (p : BitVec 1) (hq : q (ix3 0 0 b) = bitNum p)
    (hU : ∀ x d : Fin 32, v1 (ix2 d ⟨x.val, by omega⟩) = half * U x d)
    (hV : ∀ x d : Fin 32, v1 (ix2 d ⟨32 + x.val, by omega⟩) = half * V x d)
    (hW : ∀ x d : Fin 32, v3 (ix2 d x) = half * W x d) :
    cellStep v1 v3 s q h kt (ix2 d b)
      = Scalar.select p (unitRow (kerUpd U V W (fun x => s (ix3 0 x b)) (fun x => kt (ix2 x b)) (fun x => h (ix2 x b))) d)
          (h (ix2 d b)) := by
  unfold cellStep
  pointwise [k0_pay8, k0_pay3, k0_pay4, k0_pay5]
  rw [hq, half_lt_bit]
  unfold unitRow kerUpd
  simp only [hU, hV, hW]

/-- All the updates of a cell, at one batch column. -/
theorem hist_apply (S : ℕ → Vec Ideal S1x32x256 .f32) (Q : ℕ → Vec Ideal S1x1x256 .f32) (key : FVec Ideal S32x256 .f32)
    (b : Fin 256) (s : ℕ → Row) (bit : ℕ → BitVec 1) (k : Row)
    (hS : ∀ t x, S t (ix3 0 x b) = s t x) (hQ : ∀ t, Q t (ix3 0 0 b) = bitNum (bit t)) (hk : ∀ x, key (ix2 x b) = k x)
    (hU : ∀ x d : Fin 32, v1 (ix2 d ⟨x.val, by omega⟩) = half * U x d)
    (hV : ∀ x d : Fin 32, v1 (ix2 d ⟨32 + x.val, by omega⟩) = half * V x d)
    (hW : ∀ x d : Fin 32, v3 (ix2 d x) = half * W x d) (n : ℕ) (d : Fin 32) :
    hist v1 v3 S Q key n (ix2 d b) = Cert.Rows.run (kerUpd U V W) s bit k n d := by
  induction n generalizing d with
  | zero => exact hk d
  | succ n ih =>
    unfold hist Cert.Rows.run
    rw [cellStep_apply U V W v1 v3 _ _ _ _ b d (bit n) (hQ n) hU hV hW, ← funext ih]
    simp only [hS, hk]

end Cert.KernelIdeal.Cells

end
-- ==== Proof.Entry.lean ====
/- What the kernel's operands hold when the grid starts, in terms of the arguments. -/
module

public import proofs.«01_k».proof.Proof.Gen.KernelIdeal.Frame
public import proofs.«01_k».proof.Proof.KernelRows
public import Idealize.ShloMosaic.Lib.Pointwise
public import Idealize.ShloMosaic.Lib.StableHlo.ReadAt

@[expose] public section

set_option maxRecDepth 16384

noncomputable section

namespace Cert.KernelIdeal.Entry

open Idealize.ShloMosaic Idealize.ShloMosaic.TcCoe
open Cert.KernelIdeal Cert.KernelIdeal.Gen Cert.KernelIdeal.Cells Cert.Rows

variable (m : (ℓ : Loc nD τ sig) → Buf (Elt Ideal) ℓ) (c : Dev nD)

/-- The sentences' operand: column `32 t + x` is number `x` of sentence `t`. -/
theorem sent_entry (b : Fin 4096) (t : Fin 20) (x : Fin 32) :
    V m c main_v0 (ix2 b ⟨32 * t.val + x.val, by omega⟩) = m ((c : Thread nD τ).loc main_arg0) (ix3 b t x) := by
  unfold V
  after_reads_at

/-- The masks' operand. -/
theorem mask_entry (b : Fin 4096) (t : Fin 20) :
    V m c main_v1 (ix2 b t) = bitNum (m ((c : Thread nD τ).loc main_arg1) (ix2 b t)) := by
  unfold V
  after_reads_at
  rfl

/-- The keys' operand: column `32 k + x` is number `x` of memory cell `k`'s key. -/
theorem key_entry (b : Fin 4096) (k : Fin 64) (x : Fin 32) :
    V m c main_v2 (ix2 b ⟨32 * k.val + x.val, by omega⟩) = m ((c : Thread nD τ).loc main_arg2) (ix3 b k x) := by
  unfold V
  after_reads_at

/-- The first half of the stacked weights. -/
theorem u_entry (x d : Fin 32) :
    V m c main_v7 (ix2 d ⟨x.val, by omega⟩) = half * m ((c : Thread nD τ).loc main_arg3) (ix2 x d) := by
  unfold V
  after_reads_at
  after_reads_at

/-- The second half of the stacked weights. -/
theorem v_entry (x d : Fin 32) :
    V m c main_v7 (ix2 d ⟨32 + x.val, by omega⟩) = half * m ((c : Thread nD τ).loc main_arg4) (ix2 x d) := by
  unfold V
  after_reads_at
  after_reads_at

/-- The sentences' weights. -/
theorem w_entry (x d : Fin 32) :
    V m c main_v10 (ix2 d x) = half * m ((c : Thread nD τ).loc main_arg5) (ix2 x d) := by
  unfold V
  after_reads_at

end Cert.KernelIdeal.Entry

end
-- ==== Proof.Array.lean ====
/- The kernel's result array: grid point `t` writes the 256 batch rows from `256 t` on, each the histories of its
   sixty-four memory cells. -/
module

public import proofs.«01_k».proof.Proof.Gen.KernelIdeal.Value
public import proofs.«01_k».proof.Proof.Block
public import proofs.«01_k».proof.Proof.Entry
public import Idealize.ShloMosaic.Lib.Pipeline.ValueKit.Point

@[expose] public section

set_option maxRecDepth 16384

noncomputable section

namespace Cert.KernelIdeal.Array

open Idealize.ShloMosaic Idealize.ShloMosaic.TcCoe
open Cert.KernelIdeal Cert.KernelIdeal.Gen Cert.KernelIdeal.Cells Cert.KernelIdeal.Entry Cert.Rows

/-- Grid point `t` takes the `t`-th 256 rows of the sentences. -/
theorem idx_sent : ∀ t : Fin cfg0.N, win0_0.index t = ![t.val, 0] :=
  (by decide +kernel : ∀ t : Fin grid0.N, win0_0.index t = ![t.val, 0])
/-- Grid point `t` takes the `t`-th 256 rows of the masks. -/
theorem idx_mask : ∀ t : Fin cfg0.N, win0_1.index t = ![t.val, 0] :=
  (by decide +kernel : ∀ t : Fin grid0.N, win0_1.index t = ![t.val, 0])
/-- Grid point `t` takes the `t`-th 256 rows of the keys. -/
theorem idx_key : ∀ t : Fin cfg0.N, win0_2.index t = ![t.val, 0] :=
  (by decide +kernel : ∀ t : Fin grid0.N, win0_2.index t = ![t.val, 0])
/-- Every grid point takes the whole stacked weights. -/
theorem idx_uv : ∀ t : Fin cfg0.N, win0_3.index t = ![0, 0] :=
  (by decide +kernel : ∀ t : Fin grid0.N, win0_3.index t = ![0, 0])
/-- Every grid point takes the whole sentence weights. -/
theorem idx_w : ∀ t : Fin cfg0.N, win0_4.index t = ![0, 0] :=
  (by decide +kernel : ∀ t : Fin grid0.N, win0_4.index t = ![0, 0])
/-- Grid point `t` writes the `t`-th 256 rows of the result. -/
theorem idx_out : ∀ t : Fin cfg0.N, win0_5.index t = ![t.val, 0] :=
  (by decide +kernel : ∀ t : Fin grid0.N, win0_5.index t = ![t.val, 0])

variable (m : (ℓ : Loc nD τ sig) → Buf (Elt Ideal) ℓ) (c : Dev nD) (t : Fin cfg0.N)

/-- The block of sentences, read at an index. -/
theorem sent_blk (b : Fin 256) (q : Fin 640) (B : Fin 4096) (hB : B.val = 256 * t.val + b.val) :
    iblk m c 0 t (ix2 b q) = V m c main_v0 (ix2 B q) := by
  blk_ext [iblk, idx_sent t]

/-- The block of masks, read at an index. -/
theorem mask_blk (b : Fin 256) (q : Fin 20) (B : Fin 4096) (hB : B.val = 256 * t.val + b.val) :
    iblk m c 1 t (ix2 b q) = V m c main_v1 (ix2 B q) := by
  blk_ext [iblk, idx_mask t]

/-- The block of keys, read at an index. -/
theorem key_blk (b : Fin 256) (q : Fin 2048) (B : Fin 4096) (hB : B.val = 256 * t.val + b.val) :
    iblk m c 2 t (ix2 b q) = V m c main_v2 (ix2 B q) := by
  blk_ext [iblk, idx_key t]

/-- The block of stacked weights, read at an index. -/
theorem uv_blk (d : Fin 32) (q : Fin 64) : iblk m c 3 t (ix2 d q) = V m c main_v7 (ix2 d q) := by
  blk_ext [iblk, idx_uv t]

/-- The block of sentence weights, read at an index. -/
theorem w_blk (d q : Fin 32) : iblk m c 4 t (ix2 d q) = V m c main_v10 (ix2 d q) := by
  blk_ext [iblk, idx_w t]

/-- The cell weights, as launched. -/
abbrev matU : Fin 32 → Fin 32 → EReal := fun x d => m ((c : Thread nD τ).loc main_arg3) (ix2 x d)
/-- The key weights. -/
abbrev matV : Fin 32 → Fin 32 → EReal := fun x d => m ((c : Thread nD τ).loc main_arg4) (ix2 x d)
/-- The sentence weights. -/
abbrev matW : Fin 32 → Fin 32 → EReal := fun x d => m ((c : Thread nD τ).loc main_arg5) (ix2 x d)
/-- Sentence `n` of batch row `B`. -/
abbrev sentRow (B : Fin 4096) (n : ℕ) : Row :=
  fun x => m ((c : Thread nD τ).loc main_arg0) (ix3 B ⟨n % 20, Nat.mod_lt n (by decide)⟩ x)
/-- The mask bit of sentence `n` of batch row `B`. -/
abbrev maskBit (B : Fin 4096) (n : ℕ) : BitVec 1 :=
  m ((c : Thread nD τ).loc main_arg1) (ix2 B ⟨n % 20, Nat.mod_lt n (by decide)⟩)
/-- The key of memory cell `k` of batch row `B`. -/
abbrev keyRow (B : Fin 4096) (k : Fin 64) : Row := fun x => m ((c : Thread nD τ).loc main_arg2) (ix3 B k x)

/-- The result: column `32 k + d` of batch row `B` is number `d` of memory cell `k` after the twenty sentences. -/
def result : S4096x2048.Idx → EReal := fun i =>
  Cert.Rows.run (kerUpd (matU m c) (matV m c) (matW m c)) (sentRow m c (i 0)) (maskBit m c (i 0))
    (keyRow m c (i 0) ⟨(i 1).val / 32, by have := (i 1).isLt; change (i 1).val < 2048 at this; omega⟩) 20
    ⟨(i 1).val % 32, Nat.mod_lt _ (by decide)⟩

/-- What grid point `t` leaves in its output block, element by element. -/
theorem point (b : Fin 256) (r : Fin 2048) (B : Fin 4096) (hB : B.val = 256 * t.val + b.val) :
    outsAt0 m c t (ix2 b r) = result m c (ix2 B r) := by
  have hr := r.isLt
  unfold outsAt0
  rw [out_apply _ _ _ _ _ _ _ _ _ _ _ _ _ _ _ _ _ _ _ _ _ _ _ _ _ _ _ b (r.val / 32) ⟨r.val % 32, Nat.mod_lt _ (by decide)⟩ r
    (by show r.val = 32 * (r.val / 32) + r.val % 32; omega) (by omega)]
  unfold result
  refine hist_apply _ _ _ _ _ _ _ _ b _ _ _ (fun n x => ?_) (fun n => ?_) (fun x => ?_) (fun x d => ?_) (fun x d => ?_)
    (fun x d => ?_) 20 _
  · show sentCut (k0_pay558 (iblk m c 0 t)) n (ix3 0 x b) = m ((c : Thread nD τ).loc main_arg0) (ix3 B ⟨n % 20, _⟩ x)
    rw [← sent_entry m c B ⟨n % 20, _⟩ x, ← sent_blk m c t b _ B hB]
    pointwise [sentCut, k0_pay558]
  · show maskCut (k0_pay559 (iblk m c 1 t)) n (ix3 0 0 b) = bitNum (m ((c : Thread nD τ).loc main_arg1) (ix2 B ⟨n % 20, _⟩))
    rw [← mask_entry m c B ⟨n % 20, _⟩, ← mask_blk m c t b _ B hB]
    pointwise [maskCut, k0_pay559]
  · show k0_pay556 (iblk m c 2 t) ((cellRect (r.val / 32)).emb (ix2 x b)) = m ((c : Thread nD τ).loc main_arg2) (ix3 B ⟨r.val / 32, by omega⟩ x)
    rw [← key_entry m c B ⟨r.val / 32, by omega⟩ x, ← key_blk m c t b _ B hB]
    have e : (cellRect (r.val / 32)).emb (ix2 x b) = (ix2 ⟨32 * (r.val / 32) + x.val, by omega⟩ b : S2048x256.Idx) := by
      funext a
      apply Fin.ext
      match a with
      | 0 => show 32 * (r.val / 32 % 64) + 1 * x.val = 32 * (r.val / 32) + x.val; omega
      | 1 => show 0 + 1 * b.val = b.val; omega
    rw [e]
    pointwise [k0_pay556, k0_pay555]
  · show k0_pay553 (iblk m c 3 t) (ix2 d ⟨x.val, _⟩) = half * matU m c x d
    rw [← u_entry m c x d, ← uv_blk m c t]
    pointwise [k0_pay553]
  · show k0_pay553 (iblk m c 3 t) (ix2 d ⟨32 + x.val, _⟩) = half * matV m c x d
    rw [← v_entry m c x d, ← uv_blk m c t]
    pointwise [k0_pay553]
  · show k0_pay554 (iblk m c 4 t) (ix2 d x) = half * matW m c x d
    rw [← w_entry m c x d, ← w_blk m c t]
    pointwise [k0_pay554]

/-- The result array after the run. -/
theorem arr_eq : (dats m 0 c).arrAt 5 cfg0.N = result m c := by
  refine (dats m 0 c).arrAt_eq_of_covers 5 _ (by decide +kernel) fun t hf y => ?_
  blk_simp
  rw [after0_5]
  have ht : t.val < 16 := t.isLt
  obtain ⟨b, r, rfl⟩ : ∃ (b : Fin 256) (r : Fin 2048), y = ix2 b r := ⟨y 0, y 1, by funext a; fin_cases a <;> rfl⟩
  have e : (win0_5.blk t).view.emb (ix2 b r) = (ix2 ⟨256 * t.val + b.val, by omega⟩ r : S4096x2048.Idx) := by
    have ei := idx_out t
    funext a
    apply Fin.ext
    fin_cases a
    · show win0_5.index t 0 * 256 + 1 * b.val = 256 * t.val + b.val
      rw [ei]; show t.val * 256 + 1 * b.val = _; omega
    · show win0_5.index t 1 * 2048 + 1 * r.val = r.val
      rw [ei]; show 0 * 2048 + 1 * r.val = _; omega
  rw [e]
  exact point m c t b r _ rfl

end Cert.KernelIdeal.Array

end
-- ==== Proof.Reference.lean ====
/- What the reference's loop computes of one memory cell of one batch row: twenty updates of a row of thirty-two
   numbers. -/
module

public import proofs.«01_k».proof.Proof.Gen.ReferenceIdeal.StepRun
public import proofs.«01_k».proof.Proof.Rows
public import Idealize.ShloMosaic.Lib.Pointwise

@[expose] public section

set_option maxRecDepth 16384

noncomputable section

namespace Cert.ReferenceIdeal.Cells

open Idealize.ShloMosaic Idealize.ShloMosaic.TcCoe
open Cert.ReferenceIdeal Cert.ReferenceIdeal.Step Cert.Rows

/-- Sentence `t` of batch row `b`, of the array of all sentences. -/
abbrev sentRow (a : FVec Ideal S4096x20x32 .f32) (b : Fin 4096) (t : ℕ) : Row :=
  fun x => a (ix3 b ⟨t % 20, Nat.mod_lt t (by decide)⟩ x)

/-- The mask bit of sentence `t` of batch row `b`. -/
abbrev maskBit (a : IVec S4096x20 1) (b : Fin 4096) (t : ℕ) : BitVec 1 :=
  a (ix2 b ⟨t % 20, Nat.mod_lt t (by decide)⟩)

/-- The key of memory cell `k` of batch row `b`. -/
abbrev keyRow (a : FVec Ideal S4096x64x32 .f32) (b : Fin 4096) (k : Fin 64) : Row := fun x => a (ix3 b k x)

/-- A weight matrix by its two indices. -/
abbrev mat (a : FVec Ideal S32x32 .f32) : Fin 32 → Fin 32 → EReal := fun x d => a (ix2 x d)

/-- A trip number read back from its 32-bit word. -/
theorem toInt_trip (j : ℕ) (hj : j < 20) : (BitVec.ofNat 32 j).toInt = (j : ℤ) := by
  rw [BitVec.toInt_ofNat', Int.bmod_eq_of_le] <;> omega

/-- The slice of the sentences that starts at sentence `j`. -/
theorem slice_sent (x : FVec Ideal S20x4096x32 .f32) (start : Fin 3 → ℤ) (h : S20x4096x32.Slices (fun _ => 0) S1x4096x32)
    (j : ℕ) (hj : j < 20) (e0 : start 0 = j) (e1 : start 1 = 0) (e2 : start 2 = 0) (b : Fin 4096) (d : Fin 32) :
    Host.dynamicSlice S1x4096x32 x start h (ix3 0 b d) = x (ix3 ⟨j, hj⟩ b d) := by
  rw [Host.dynamicSlice_apply]
  refine congrArg x (funext fun a => ?_)
  have c0 : Host.clampedStart S20x4096x32 S1x4096x32 h.1 start 0 = j :=
    Host.clampedStart_of_le (s := S20x4096x32) (t := S1x4096x32) _ start 0 j e0 (Nat.succ_le_of_lt hj)
  have c1 : Host.clampedStart S20x4096x32 S1x4096x32 h.1 start 1 = 0 :=
    Host.clampedStart_of_le (s := S20x4096x32) (t := S1x4096x32) _ start 1 0 e1 (by show 0 + 4096 ≤ 4096; omega)
  have c2 : Host.clampedStart S20x4096x32 S1x4096x32 h.1 start 2 = 0 :=
    Host.clampedStart_of_le (s := S20x4096x32) (t := S1x4096x32) _ start 2 0 e2 (by show 0 + 32 ≤ 32; omega)
  fin_cases a
  · exact Fin.ext (by show Host.clampedStart S20x4096x32 S1x4096x32 h.1 start 0 + 0 = j; rw [c0, Nat.add_zero])
  · exact Fin.ext (by show Host.clampedStart S20x4096x32 S1x4096x32 h.1 start 1 + b.val = b.val; rw [c1, Nat.zero_add])
  · exact Fin.ext (by show Host.clampedStart S20x4096x32 S1x4096x32 h.1 start 2 + d.val = d.val; rw [c2, Nat.zero_add])

/-- The slice of the masks that starts at sentence `j`. -/
theorem slice_mask (x : IVec S20x4096 1) (start : Fin 2 → ℤ) (h : S20x4096.Slices (fun _ => 0) S1x4096)
    (j : ℕ) (hj : j < 20) (e0 : start 0 = j) (e1 : start 1 = 0) (b : Fin 4096) :
    Host.dynamicSlice S1x4096 x start h (ix2 0 b) = x (ix2 ⟨j, hj⟩ b) := by
  rw [Host.dynamicSlice_apply]
  refine congrArg x (funext fun a => ?_)
  have c0 : Host.clampedStart S20x4096 S1x4096 h.1 start 0 = j :=
    Host.clampedStart_of_le (s := S20x4096) (t := S1x4096) _ start 0 j e0 (Nat.succ_le_of_lt hj)
  have c1 : Host.clampedStart S20x4096 S1x4096 h.1 start 1 = 0 :=
    Host.clampedStart_of_le (s := S20x4096) (t := S1x4096) _ start 1 0 e1 (by show 0 + 4096 ≤ 4096; omega)
  fin_cases a
  · exact Fin.ext (by show Host.clampedStart S20x4096 S1x4096 h.1 start 0 + 0 = j; rw [c0, Nat.add_zero])
  · exact Fin.ext (by show Host.clampedStart S20x4096 S1x4096 h.1 start 1 + b.val = b.val; rw [c1, Nat.zero_add])

/-- Trip `j` takes sentence `j`. -/
theorem sent_apply (j : ℕ) (hj : j < 20) (s : State Ideal) (b : Fin 4096) (d : Fin 32) :
    b3 j s (ix2 b d) = s.main_v2_0 (ix3 ⟨j, hj⟩ b d) := by
  pointwise [b3]
  exact slice_sent s.main_v2_0 _ _ j hj (toInt_trip j hj) rfl rfl b d

/-- Trip `j` takes sentence `j`'s mask. -/
theorem mask_apply (j : ℕ) (hj : j < 20) (s : State Ideal) (b : Fin 4096) :
    b6 j s (ix1 b) = s.main_v2_1 (ix2 ⟨j, hj⟩ b) := by
  pointwise [b6]
  exact slice_mask s.main_v2_1 _ _ j hj (toInt_trip j hj) rfl b

/-- The attention gate of a trip. -/
theorem gate_apply (j : ℕ) (s : State Ideal) (b : Fin 4096) (k : Fin 64) :
    b23 j s (ix2 b k) = gate (∑ x, (b3 j s (ix2 b x) * s.main_v2_7 (ix3 b k x) + b3 j s (ix2 b x) * s.main_v2_2 (ix3 b k x))) := by
  pointwise [b23, b22, b21, b20, b19, b18, b17, b16, b15, b14, b13, b12, b11, b10, b9, b8, b7]
  rfl

/-- The cell a trip normalizes. -/
theorem upd_apply (j : ℕ) (s : State Ideal) (b : Fin 4096) (k : Fin 64) (d : Fin 32) :
    b42 j s (ix3 b k d) = refUpd (mat s.main_v2_3) (mat s.main_v2_4) (mat s.main_v2_5) (fun x => b3 j s (ix2 b x))
      (keyRow s.main_v2_2 b k) (keyRow s.main_v2_7 b k) d := by
  unfold refUpd
  rw [← gate_apply]
  unfold b42 b41 b40 b39 b38 b37 b36 b35 b34 b33 b32 b31 b30 b29 b28 b27 b26 b25 b24
  pointwise
  rfl

/-- The memory a trip leaves. -/
theorem mem_apply (j : ℕ) (hj : j < 20) (s : State Ideal) (b : Fin 4096) (k : Fin 64) (d : Fin 32) :
    b55 j s (ix3 b k d) = Scalar.select (s.main_v2_1 (ix2 ⟨j, hj⟩ b))
      (unitRow (refUpd (mat s.main_v2_3) (mat s.main_v2_4) (mat s.main_v2_5) (fun x => s.main_v2_0 (ix3 ⟨j, hj⟩ b x))
        (keyRow s.main_v2_2 b k) (keyRow s.main_v2_7 b k)) d) (s.main_v2_7 (ix3 b k d)) := by
  have e0 : b44 j s (Shape.Idx.first Gen.h_S_) = 0 := by pointwise [b44]
  have e1 : b54 j s (ix3 b k d) = b6 j s (ix1 b) := by pointwise [b54, b53]
  have e2 : (fun x => b3 j s (ix2 b x)) = fun x => s.main_v2_0 (ix3 ⟨j, hj⟩ b x) := funext fun x => sent_apply j hj s b x
  rw [← e2, ← mask_apply j hj s b, ← e1]
  unfold unitRow
  simp only [← upd_apply]
  unfold b55 b52 b51 b50 b49 b48 b47 b46 b45 b43
  pointwise
  rw [e0, zero_add]

variable (a0 : FVec Ideal S4096x20x32 .f32) (a1 : IVec S4096x20 1) (a2 : FVec Ideal S4096x64x32 .f32)
  (a3 a4 a5 : FVec Ideal S32x32 .f32)

/-- The loop's states, of the six arguments. -/
def state : ℕ → State Ideal
  | 0 => init a2 a3 a4 a5 a0 a1
  | n + 1 => step n (state n)

/-- A trip changes only the memory. -/
theorem state_eq (n : ℕ) :
    state a0 a1 a2 a3 a4 a5 n = { init a2 a3 a4 a5 a0 a1 with main_v2_7 := (state a0 a1 a2 a3 a4 a5 n).main_v2_7 } := by
  induction n with
  | zero => rfl
  | succ n ih =>
    unfold state step
    rw [ih]

/-- The memory after `n` sentences, cell by cell. -/
theorem state_apply (n : ℕ) (hn : n ≤ 20) (b : Fin 4096) (k : Fin 64) (d : Fin 32) :
    (state a0 a1 a2 a3 a4 a5 n).main_v2_7 (ix3 b k d)
      = Cert.Rows.run (refUpd (mat a3) (mat a4) (mat a5)) (sentRow a0 b) (maskBit a1 b) (keyRow a2 b k) n d := by
  induction n generalizing d with
  | zero => rfl
  | succ n ih =>
    have hj : n < 20 := hn
    have ih' := funext fun x => ih (by omega) x
    have em : (⟨n % 20, Nat.mod_lt n (by decide)⟩ : Fin 20) = ⟨n, hj⟩ := Fin.ext (Nat.mod_eq_of_lt hj)
    unfold state Cert.Rows.run
    rw [step_main_v2_7, mem_apply n hj, ← ih']
    rw [state_eq]
    unfold sentRow maskBit init
    rw [em]
    have t0 : ∀ x, A_main_v0 (F := Ideal) a0 a1 (ix3 ⟨n, hj⟩ b x) = a0 (ix3 b ⟨n, hj⟩ x) := fun x => by pointwise [A_main_v0]
    have t1 : A_main_v1 (F := Ideal) a0 a1 (ix2 ⟨n, hj⟩ b) = a1 (ix2 b ⟨n, hj⟩) := by pointwise [A_main_v1]
    simp only [t0, t1]

/-- The reference's result: column `32 k + d` of batch row `b` is number `d` of memory cell `k` after the twenty sentences. -/
theorem result_apply (b : Fin 4096) (k : Fin 64) (d : Fin 32) (r : Fin 2048) (hr : r.val = 32 * k.val + d.val) :
    R_main_v3 (state a0 a1 a2 a3 a4 a5 20) (ix2 b r)
      = Cert.Rows.run (refUpd (mat a3) (mat a4) (mat a5)) (sentRow a0 b) (maskBit a1 b) (keyRow a2 b k) 20 d := by
  rw [← state_apply a0 a1 a2 a3 a4 a5 20 le_rfl]
  pointwise [R_main_v3]
  refine congrArg _ ?_
  congr 1 <;> exact Fin.ext (by show _ = _; simp only []; omega)

end Cert.ReferenceIdeal.Cells

end
-- ==== Proof.lean ====
/- The certificate: the three programs' frames, and the equality of the kernel's result with the reference's for finite
   sentences. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.StepRun
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The side condition of the precondition's broadcast. -/
theorem preFacts : Cert.Pre_finite_sents.Facts where
  bcast_S_S4096x20x32 := by decide +kernel

/-- A number whose absolute value compares below the infinity is real. -/
theorem real_of_abs (y : EReal) (h : BitVec.ofBool (decide (max y (-y) < ⊤)) = 1#1) : ∃ r : ℝ, y = (r : EReal) := by
  induction y with
  | bot => simp at h
  | top => simp at h
  | coe r => exact ⟨r, rfl⟩

/-- The precondition makes every number of every sentence real. -/
theorem sents_real [Cert.Pre_finite_sents.Facts] (m : (ℓ : Loc Cert.KernelIdeal.nD Cert.KernelIdeal.τ Cert.KernelIdeal.sig) → Buf (Elt Ideal) ℓ)
    (h : Cert.Pre_KernelIdeal_finite_sents m) (c : Dev Cert.KernelIdeal.nD) (b : Fin 4096) (t : Fin 20) (x : Fin 32) :
    ∃ r : ℝ, m ((c.tc : Thread Cert.KernelIdeal.nD Cert.KernelIdeal.τ).loc Cert.KernelIdeal.main_arg0) (ix3 b t x) = (r : EReal) := by
  have e := congrFun (h c) (ix3 b t x)
  generalize m ((c.tc : Thread Cert.KernelIdeal.nD Cert.KernelIdeal.τ).loc Cert.KernelIdeal.main_arg0) = a at e ⊢
  unfold Cert.Pre_finite_sents.fn at e
  revert e
  pointwise
  have top : Ideal.ofBits .f32 2139095040#32 = ⊤ := by simp [Ideal.ofBits, Ideal.ieee]
  rw [top]
  exact real_of_abs (a (ix3 b t x))

/-- The kernel's result is the reference's. -/
theorem result_eq [Cert.Pre_finite_sents.Facts] (m : (ℓ : Loc Cert.KernelIdeal.nD Cert.KernelIdeal.τ Cert.KernelIdeal.sig) → Buf (Elt Ideal) ℓ)
    (h : Cert.Pre_KernelIdeal_finite_sents m) (c : Dev Cert.KernelIdeal.nD) :
    Cert.KernelIdeal.Array.result m c
      = Cert.ReferenceIdeal.Step.R_main_v3 (F := Ideal) (Cert.ReferenceIdeal.Cells.state
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) 20) := by
  funext i
  obtain ⟨b, r, rfl⟩ : ∃ (b : Fin 4096) (r : Fin 2048), i = ix2 b r := ⟨i 0, i 1, by funext a; fin_cases a <;> rfl⟩
  have hr := r.isLt
  rw [Cert.ReferenceIdeal.Cells.result_apply _ _ _ _ _ _ b ⟨r.val / 32, by omega⟩ ⟨r.val % 32, Nat.mod_lt _ (by decide)⟩ r
    (by show r.val = 32 * (r.val / 32) + r.val % 32; omega)]
  exact congrFun (Cert.Rows.run_eq _ _ _ _ _ _ 20 fun n _ x => sents_real m h c b ⟨n % 20, Nat.mod_lt n (by decide)⟩ x) _

/-- The value claim: both programs run, leave their arguments, and end with the same result. -/
theorem algebraic [Cert.Pre_finite_sents.Facts] :
    Cert.algebraic_KernelIdeal_ReferenceIdeal_pre_finite_sents (hKernelIdeal := Cert.KernelIdeal.Gen.facts)
      (hReferenceIdeal := Cert.ReferenceIdeal.Gen.facts) := by
  intro m g m' g' hpre hargs
  refine ⟨fun c => Cert.KernelIdeal.Array.result m c, ?_, ?_⟩
  · refine (θ_run _ _ _).mono (fun r h c => ?_) (Cert.KernelIdeal.Value.run_blocks m g)
    exact ⟨(h c).1.trans (Cert.KernelIdeal.Array.arr_eq m c), (h c).2⟩
  · refine (θ_run _ _ _).mono (fun r h c => ?_) (Cert.ReferenceIdeal.StepRun.run_iter m' g'
      (fun c => Cert.ReferenceIdeal.Cells.state
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)))
      (fun _ => rfl) (fun _ _ => rfl))
    refine ⟨(h c).1.trans ?_, (h c).2⟩
    obtain ⟨e0, e1, e2, e3, e4, e5⟩ := hargs c
    rw [e0, e1, e2, e3, e4, e5]
    exact (result_eq m hpre c).symm

/-- The reference runs, leaves its arguments, and ends with every counter at zero: it declares none. -/
theorem reference_frame : Cert.quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems rfl r.2))
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, reference_frame,
    fun m ρ _ => reference_frame m ρ trivial, trivial, @algebraic preFacts⟩

end Cert.Proof

end
